-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_is_unique [hPre_nearest_is_unique : Cert.Pre_nearest_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_is_unique [hPre_nearest_is_unique : Cert.Pre_nearest_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nearest_is_unique [hKernelIdeal : Cert.KernelIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_is_unique m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_is_unique [hReferenceIdeal : Cert.ReferenceIdeal.Facts] [hPre_nearest_is_unique : Cert.Pre_nearest_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "step" .f32 0x3C008081#32 ((2 / 255 : ℝ) : EReal)

def algebraic_KernelIdeal_ReferenceIdeal_pre_nearest_is_unique [hKernelIdeal : Cert.KernelIdeal.Facts] [hReferenceIdeal : Cert.ReferenceIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_is_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_is_unique : Cert.Pre_nearest_is_unique.Facts),
    quiescent_Kernel (hKernel := hKernel)
    ∧ quiescent_KernelIdeal (hKernelIdeal := hKernelIdeal)
    ∧ quiescent_KernelIdeal_pre_nearest_is_unique (hKernelIdeal := hKernelIdeal) (hPre_nearest_is_unique := hPre_nearest_is_unique)
    ∧ quiescent_ReferenceIdeal (hReferenceIdeal := hReferenceIdeal)
    ∧ quiescent_ReferenceIdeal_pre_nearest_is_unique (hReferenceIdeal := hReferenceIdeal) (hPre_nearest_is_unique := hPre_nearest_is_unique)
    ∧ preserves_Kernel_KernelIdeal
    ∧ algebraic_KernelIdeal_ReferenceIdeal_pre_nearest_is_unique (hKernelIdeal := hKernelIdeal) (hReferenceIdeal := hReferenceIdeal) (hPre_nearest_is_unique := hPre_nearest_is_unique)
-- ==== Pre_nearest_is_unique.lean ====
abbrev S8x576x96 : Shape := ⟨3, ![8, 576, 96]⟩
abbrev S256 : Shape := ⟨1, ![256]⟩
abbrev S_ : Shape := ⟨0, ![]⟩
abbrev S255 : Shape := ⟨1, ![255]⟩
abbrev S1 : Shape := ⟨1, ![1]⟩
abbrev S442368x1 : Shape := ⟨2, ![442368, 1]⟩
abbrev S1x255 : Shape := ⟨2, ![1, 255]⟩
abbrev S442368x255 : Shape := ⟨2, ![442368, 255]⟩

class Facts : Prop where
  bcast_S_S255 : S_.BroadcastsInDim S255 (![] : Fin 0 → Fin S255.rank)
  shapeCasts_S_S1 : S_.ShapeCasts S1
  bcast_S1_S255_0 : S1.BroadcastsInDim S255 (![0] : Fin 1 → Fin S255.rank)
  bcast_S_S1 : S_.BroadcastsInDim S1 (![] : Fin 0 → Fin S1.rank)
  concatenates_S255_S1_S256_d0 : Shape.Concatenates [S255, S1] S256 0
  reducesTo_S256_S_d0 : S256.ReducesTo [0] S_
  h_S_ : 0 < S_.numel
  bcast_S_S8x576x96 : S_.BroadcastsInDim S8x576x96 (![] : Fin 0 → Fin S8x576x96.rank)
  reducesTo_S8x576x96_S_d0_1_2 : S8x576x96.ReducesTo [0, 1, 2] S_
  shapeCasts_S8x576x96_S442368x1 : S8x576x96.ShapeCasts S442368x1
  bcast_S_S442368x1 : S_.BroadcastsInDim S442368x1 (![] : Fin 0 → Fin S442368x1.rank)
  slices_S256_S255_0 : S256.Slices ![0] S255
  slices_S256_S255_1 : S256.Slices ![1] S255
  bcast_S255_S1x255_1 : S255.BroadcastsInDim S1x255 (![1] : Fin 1 → Fin S1x255.rank)
  bcast_S442368x1_S442368x255_0_1 : S442368x1.BroadcastsInDim S442368x255 (![0, 1] : Fin 2 → Fin S442368x255.rank)
  bcast_S1x255_S442368x255_0_1 : S1x255.BroadcastsInDim S442368x255 (![0, 1] : Fin 2 → Fin S442368x255.rank)
  reducesTo_S442368x255_S_d0_1 : S442368x255.ReducesTo [0, 1] S_

variable [Facts]

def fn_linspace {F : FTy → Type} [FloatOps F] (arg0 : FVec F S_ .f32) (arg1 : FVec F S_ .f32) : FVec F S256 .f32 :=
  let v0 : FVec F S_ .f32 := id arg0
  let v1 : FVec F S_ .f32 := id arg1
  let v2 : FVec F S_ .f32 := subf v1 v0
  let cst : FVec F S_ .f32 := constant S_ .f32 0x437F0000#32
  let v3 : FVec F S_ .f32 := Host.divf v2 cst
  let v4 : FVec F S255 .f32 := sitofp .f32 (iotaInDim S255 32 0)
  let cst_0 : FVec F S_ .f32 := constant S_ .f32 0x437F0000#32
  let v5 : FVec F S255 .f32 := broadcastInDim S255 ![] bcast_S_S255 cst_0
  let v6 : FVec F S255 .f32 := Host.divf v4 v5
  let v7 : FVec F S1 .f32 := shapeCast S1 v0 shapeCasts_S_S1
  let cst_1 : FVec F S_ .f32 := constant S_ .f32 0x3F800000#32
  let v8 : FVec F S255 .f32 := broadcastInDim S255 ![] bcast_S_S255 cst_1
  let v9 : FVec F S255 .f32 := subf v8 v6
  let v10 : FVec F S255 .f32 := broadcastInDim S255 ![0] bcast_S1_S255_0 v7
  let v11 : FVec F S255 .f32 := mulf v10 v9
  let v12 : FVec F S1 .f32 := shapeCast S1 v1 shapeCasts_S_S1
  let v13 : FVec F S255 .f32 := broadcastInDim S255 ![0] bcast_S1_S255_0 v12
  let v14 : FVec F S255 .f32 := mulf v13 v6
  let v15 : FVec F S255 .f32 := addf v11 v14
  let v16 : FVec F S1 .f32 := broadcastInDim S1 ![] bcast_S_S1 v1
  let v17 : FVec F S256 .f32 := (fun a b => concatenate S256 0 [⟨S255, a⟩, ⟨S1, b⟩] concatenates_S255_S1_S256_d0) v15 v16
  v17

def fn_part1 {F : FTy → Type} [FloatOps F] (main_v2 : IVec S_ 1) (main_v6 : IVec S_ 1) (main_v16 : IVec S442368x255 1) (main_c_4 : IVec S_ 1) : IVec S_ 1 :=
  let main_v17 : IVec S_ 1 := (fun x v => Host.reduce IntOp.andi x v reducesTo_S442368x255_S_d0_1 h_S_) main_v16 main_c_4
  let main_v18 : IVec S_ 1 := andi main_v2 main_v6
  let main_v19 : IVec S_ 1 := andi main_v18 main_v17
  main_v19

def fn {F : FTy → Type} [FloatOps F] (main_arg0 : FVec F S8x576x96 .f32) (main_arg1 : FVec F S256 .f32) : IVec S_ 1 :=
  let main_cst : FVec F S_ .f32 := constant S_ .f32 0xBF800000#32
  let main_cst_0 : FVec F S_ .f32 := constant S_ .f32 0x3F800000#32
  let main_v0 : FVec F S256 .f32 := fn_linspace (F := F) main_cst main_cst_0
  let main_v1 : IVec S256 1 := cmpf .oeq main_arg1 main_v0
  let main_c : IVec S_ 1 := constantI S_ 1 1#1
  let main_v2 : IVec S_ 1 := (fun x v => Host.reduce IntOp.andi x v reducesTo_S256_S_d0 h_S_) main_v1 main_c
  let main_v3 : FVec F S8x576x96 .f32 := Host.absf main_arg0
  let main_cst_1 : FVec F S_ .f32 := constant S_ .f32 0x7F800000#32
  let main_v4 : FVec F S8x576x96 .f32 := broadcastInDim S8x576x96 ![] bcast_S_S8x576x96 main_cst_1
  let main_v5 : IVec S8x576x96 1 := cmpf .olt main_v3 main_v4
  let main_c_2 : IVec S_ 1 := constantI S_ 1 1#1
  let main_v6 : IVec S_ 1 := (fun x v => Host.reduce IntOp.andi x v reducesTo_S8x576x96_S_d0_1_2 h_S_) main_v5 main_c_2
  let main_v7 : FVec F S442368x1 .f32 := shapeCast S442368x1 main_arg0 shapeCasts_S8x576x96_S442368x1
  let main_cst_3 : FVec F S_ .f32 := constant S_ .f32 0x40000000#32
  let main_v8 : FVec F S442368x1 .f32 := broadcastInDim S442368x1 ![] bcast_S_S442368x1 main_cst_3
  let main_v9 : FVec F S442368x1 .f32 := mulf main_v8 main_v7
  let main_v10 : FVec F S255 .f32 := (extractStridedSlice S255 ![0] · slices_S256_S255_0) main_arg1
  let main_v11 : FVec F S255 .f32 := (extractStridedSlice S255 ![1] · slices_S256_S255_1) main_arg1
  let main_v12 : FVec F S255 .f32 := addf main_v10 main_v11
  let main_v13 : FVec F S1x255 .f32 := broadcastInDim S1x255 ![1] bcast_S255_S1x255_1 main_v12
  let main_v14 : FVec F S442368x255 .f32 := broadcastInDim S442368x255 ![0, 1] bcast_S442368x1_S442368x255_0_1 main_v9
  let main_v15 : FVec F S442368x255 .f32 := broadcastInDim S442368x255 ![0, 1] bcast_S1x255_S442368x255_0_1 main_v13
  let main_v16 : IVec S442368x255 1 := cmpf .une main_v14 main_v15
  let main_c_4 : IVec S_ 1 := constantI S_ 1 1#1
  fn_part1 (F := F) main_v2 main_v6 main_v16 main_c_4
-- ==== Kernel.lean ====
abbrev S8x576x96 : Shape := ⟨3, ![8, 576, 96]⟩
abbrev S256 : Shape := ⟨1, ![256]⟩
abbrev S8x96x576 : Shape := ⟨3, ![8, 96, 576]⟩
abbrev S24x576 : Shape := ⟨2, ![24, 576]⟩
abbrev S_ : Shape := ⟨0, ![]⟩
abbrev S1x24x576 : Shape := ⟨3, ![1, 24, 576]⟩
abbrev S1x16 : Shape := ⟨2, ![1, 16]⟩
abbrev S16 : Shape := ⟨1, ![16]⟩

abbrev nBuf : Table → Nat
  | .hbm => 5
  | .local .scVector .vmem => 2
  | _ => 0

abbrev bufTy : (tb : Table) → Fin (nBuf tb) → BufTy
  | .hbm, ⟨0, _⟩ => ⟨S8x576x96, .f32⟩
  | .hbm, ⟨1, _⟩ => ⟨S256, .f32⟩
  | .hbm, ⟨2, _⟩ => ⟨S8x96x576, .f32⟩
  | .hbm, ⟨3, _⟩ => ⟨S8x96x576, .f32⟩
  | .hbm, ⟨4, _⟩ => ⟨S8x576x96, .f32⟩
  | .local .scVector .vmem, ⟨0, _⟩ => ⟨S24x576, .f32⟩
  | .local .scVector .vmem, ⟨1, _⟩ => ⟨S24x576, .f32⟩
  | _, _ => ⟨S8x576x96, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.muli v28 c24_i32
  let c0_i32_14_r0 : BitVec 32 := 0#32
  ![v18.toNat, v29.toNat, 0]
@[reducible] def k0_t1_loop : Scf.Loop 32 :=
  let c0_i32_10 : BitVec 32 := 0#32
  let c24_i32_11 : BitVec 32 := 24#32
  let v30 : BitVec 32 := Scalar.addi c0_i32_10 c24_i32_11
  let c1_i32_12 : BitVec 32 := 1#32
  ⟨c0_i32_10, v30, c1_i32_12⟩
def k0_off2 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v33 : Index := Scalar.indexCast v32
  let c0 : Index := 0#32
  ![v33.toNat, 0]
def k0_off3 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v54 : Index := Scalar.indexCast v32
  let c16 : Index := 16#32
  ![v54.toNat, 16]
def k0_off4 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v75 : Index := Scalar.indexCast v32
  let c32 : Index := 32#32
  ![v75.toNat, 32]
def k0_off5 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v96 : Index := Scalar.indexCast v32
  let c48 : Index := 48#32
  ![v96.toNat, 48]
def k0_off6 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v117 : Index := Scalar.indexCast v32
  let c64 : Index := 64#32
  ![v117.toNat, 64]
def k0_off7 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v138 : Index := Scalar.indexCast v32
  let c80 : Index := 80#32
  ![v138.toNat, 80]
def k0_off8 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v159 : Index := Scalar.indexCast v32
  let c96 : Index := 96#32
  ![v159.toNat, 96]
def k0_off9 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v180 : Index := Scalar.indexCast v32
  let c112 : Index := 112#32
  ![v180.toNat, 112]
def k0_off10 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v201 : Index := Scalar.indexCast v32
  let c128 : Index := 128#32
  ![v201.toNat, 128]
def k0_off11 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v222 : Index := Scalar.indexCast v32
  let c144 : Index := 144#32
  ![v222.toNat, 144]
def k0_off12 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v243 : Index := Scalar.indexCast v32
  let c160 : Index := 160#32
  ![v243.toNat, 160]
def k0_off13 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v264 : Index := Scalar.indexCast v32
  let c176 : Index := 176#32
  ![v264.toNat, 176]
def k0_off14 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v285 : Index := Scalar.indexCast v32
  let c192 : Index := 192#32
  ![v285.toNat, 192]
def k0_off15 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v306 : Index := Scalar.indexCast v32
  let c208 : Index := 208#32
  ![v306.toNat, 208]
def k0_off16 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v327 : Index := Scalar.indexCast v32
  let c224 : Index := 224#32
  ![v327.toNat, 224]
def k0_off17 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v348 : Index := Scalar.indexCast v32
  let c240 : Index := 240#32
  ![v348.toNat, 240]
def k0_off18 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v369 : Index := Scalar.indexCast v32
  let c256 : Index := 256#32
  ![v369.toNat, 256]
def k0_off19 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v390 : Index := Scalar.indexCast v32
  let c272 : Index := 272#32
  ![v390.toNat, 272]
def k0_off20 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v411 : Index := Scalar.indexCast v32
  let c288 : Index := 288#32
  ![v411.toNat, 288]
def k0_off21 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v432 : Index := Scalar.indexCast v32
  let c304 : Index := 304#32
  ![v432.toNat, 304]
def k0_off22 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v453 : Index := Scalar.indexCast v32
  let c320 : Index := 320#32
  ![v453.toNat, 320]
def k0_off23 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v474 : Index := Scalar.indexCast v32
  let c336 : Index := 336#32
  ![v474.toNat, 336]
def k0_off24 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v495 : Index := Scalar.indexCast v32
  let c352 : Index := 352#32
  ![v495.toNat, 352]
def k0_off25 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v516 : Index := Scalar.indexCast v32
  let c368 : Index := 368#32
  ![v516.toNat, 368]
def k0_off26 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v537 : Index := Scalar.indexCast v32
  let c384 : Index := 384#32
  ![v537.toNat, 384]
def k0_off27 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v558 : Index := Scalar.indexCast v32
  let c400 : Index := 400#32
  ![v558.toNat, 400]
def k0_off28 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v579 : Index := Scalar.indexCast v32
  let c416 : Index := 416#32
  ![v579.toNat, 416]
def k0_off29 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v600 : Index := Scalar.indexCast v32
  let c432 : Index := 432#32
  ![v600.toNat, 432]
def k0_off30 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v621 : Index := Scalar.indexCast v32
  let c448 : Index := 448#32
  ![v621.toNat, 448]
def k0_off31 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v642 : Index := Scalar.indexCast v32
  let c464 : Index := 464#32
  ![v642.toNat, 464]
def k0_off32 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v663 : Index := Scalar.indexCast v32
  let c480 : Index := 480#32
  ![v663.toNat, 480]
def k0_off33 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v684 : Index := Scalar.indexCast v32
  let c496 : Index := 496#32
  ![v684.toNat, 496]
def k0_off34 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v705 : Index := Scalar.indexCast v32
  let c512 : Index := 512#32
  ![v705.toNat, 512]
def k0_off35 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v726 : Index := Scalar.indexCast v32
  let c528 : Index := 528#32
  ![v726.toNat, 528]
def k0_off36 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v747 : Index := Scalar.indexCast v32
  let c544 : Index := 544#32
  ![v747.toNat, 544]
def k0_off37 (k0_t1 : Fin k0_t1_loop.trips) : Fin 2 → Nat :=
  let c0_i32_15 : BitVec 32 := 0#32
  let c0_i32_10 : BitVec 32 := 0#32
  let c1_i32_12 : BitVec 32 := 1#32
  let arg7 : BitVec 32 := Scf.iv c0_i32_10 c1_i32_12 k0_t1
  let c1_i32_14 : BitVec 32 := 1#32
  let v31 : BitVec 32 := Scalar.muli arg7 c1_i32_14
  let v32 : BitVec 32 := Scalar.addi c0_i32_15 v31
  let v768 : Index := Scalar.indexCast v32
  let c560 : Index := 560#32
  ![v768.toNat, 560]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "step" => some ((2 / 255 : ℝ) : EReal)
  | _ => none
-- ==== ReferenceIdeal.lean ====
abbrev S8x576x96 : Shape := ⟨3, ![8, 576, 96]⟩
abbrev S256 : Shape := ⟨1, ![256]⟩
abbrev S442368x1 : Shape := ⟨2, ![442368, 1]⟩
abbrev S1x256 : Shape := ⟨2, ![1, 256]⟩
abbrev S442368x256 : Shape := ⟨2, ![442368, 256]⟩
abbrev S_ : Shape := ⟨0, ![]⟩
abbrev S442368 : Shape := ⟨1, ![442368]⟩
abbrev S1 : Shape := ⟨1, ![1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x576x96, .f32⟩
  | .hbm, ⟨1, _⟩ => ⟨S256, .f32⟩
  | .hbm, ⟨2, _⟩ => ⟨S442368x1, .f32⟩
  | .hbm, ⟨3, _⟩ => ⟨S1x256, .f32⟩
  | .hbm, ⟨4, _⟩ => ⟨S442368x256, .f32⟩
  | .hbm, ⟨5, _⟩ => ⟨S442368x256, .f32⟩
  | .hbm, ⟨6, _⟩ => ⟨S442368x256, .f32⟩
  | .hbm, ⟨7, _⟩ => ⟨S442368x256, .f32⟩
  | .hbm, ⟨8, _⟩ => ⟨S442368x256, .i32⟩
  | .hbm, ⟨9, _⟩ => ⟨S_, .f32⟩
  | .hbm, ⟨10, _⟩ => ⟨S_, .i32⟩
  | .hbm, ⟨11, _⟩ => ⟨S442368, .f32⟩
  | .hbm, ⟨12, _⟩ => ⟨S442368, .i32⟩
  | .hbm, ⟨13, _⟩ => ⟨S_, .i32⟩
  | .hbm, ⟨14, _⟩ => ⟨S442368, .i32⟩
  | .hbm, ⟨15, _⟩ => ⟨S442368, .i1⟩
  | .hbm, ⟨16, _⟩ => ⟨S_, .i32⟩
  | .hbm, ⟨17, _⟩ => ⟨S442368, .i32⟩
  | .hbm, ⟨18, _⟩ => ⟨S442368, .i32⟩
  | .hbm, ⟨19, _⟩ => ⟨S442368, .i32⟩
  | .hbm, ⟨20, _⟩ => ⟨S442368x1, .i32⟩
  | .hbm, ⟨21, _⟩ => ⟨S1, .i32⟩
  | .hbm, ⟨22, _⟩ => ⟨S_, .i32⟩
  | .hbm, ⟨23, _⟩ => ⟨S442368x1, .i32⟩
  | .hbm, ⟨24, _⟩ => ⟨S442368x1, .i1⟩
  | .hbm, ⟨25, _⟩ => ⟨S1x1, .i32⟩
  | .hbm, ⟨26, _⟩ => ⟨S442368x1, .i32⟩
  | .hbm, ⟨27, _⟩ => ⟨S442368x1, .i1⟩
  | .hbm, ⟨28, _⟩ => ⟨S442368x1, .i1⟩
  | .hbm, ⟨29, _⟩ => ⟨S_, .i1⟩
  | .hbm, ⟨30, _⟩ => ⟨S442368, .i1⟩
  | .hbm, ⟨31, _⟩ => ⟨S442368, .f32⟩
  | .hbm, ⟨32, _⟩ => ⟨S_, .f32⟩
  | .hbm, ⟨33, _⟩ => ⟨S442368, .f32⟩
  | .hbm, ⟨34, _⟩ => ⟨S442368, .f32⟩
  | .hbm, ⟨35, _⟩ => ⟨S8x576x96, .f32⟩
  | .hbm, ⟨36, _⟩ => ⟨S8x576x96, .f32⟩
  | .hbm, ⟨37, _⟩ => ⟨S8x576x96, .f32⟩
  | _, _ => ⟨S8x576x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v6 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩

abbrev nD : Nat := 1
abbrev τ : Topo := Topo.v7x

variable {F : FTy → Type} [FloatOps F]
-- ==== Proof.Launch.lean ====
/-
  The kernel's launch, as the SparseCore launch theorem sees it: one vector-subcore call on both SparseCores, sixteen
  subcores each. The thirty-two subcores tile the transposed operand and the result by blocks of 24 rows of 576
  elements; subcore `L` handles block `((2·L₁ + L₀) / 4, 24·((2·L₁ + L₀) mod 4))`. This file states those blocks, that
  they are disjoint and cover the array, what one element of the result is (`quant`), and what each handshake carries.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: its semaphores distinct and unscoped, nothing shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers and the blocks -/

/-- The argument, the centres, the transposed argument, the call's result and the program's result, on device `d`. -/
abbrev aLoc (d : Dev nD) : Loc nD τ sig := (SparseCore.T d).loc main_arg0
abbrev cLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "xV" => (Memref.whole Cert.KernelIdeal.main_v0_scv : Memref Cert.KernelIdeal.sig Kind.scVector Space.hbm Cert.KernelIdeal.S8x96x576 EltTy.f32)
local notation "cV'" => (Memref.whole Cert.KernelIdeal.main_arg1_scv : Memref Cert.KernelIdeal.sig Kind.scVector Space.hbm Cert.KernelIdeal.S256 EltTy.f32)
local notation "oV" => (Memref.whole Cert.KernelIdeal.main_v1_scv : Memref Cert.KernelIdeal.sig Kind.scVector Space.hbm Cert.KernelIdeal.S8x96x576 EltTy.f32)

/-- The grid's coordinates from a SparseCore and a vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- The block of `[1, 24, 576]` elements subcore `L` handles, as the kernel spells it. -/
abbrev blk (L : grid0.Coords) : Rect S8x96x576 := Rect.unit (s := S8x96x576) (k0_off1 L) S1x24x576.size (k0_off1_inb L)
abbrev blkSet (L : grid0.Coords) : Finset S8x96x576.Idx := ((xV).view.slice (blk L)).set

/-- The block's offsets in closed form. -/
theorem k0_off1_eq : ∀ L : grid0.Coords, k0_off1 L = ![(2 * (L 1).val + (L 0).val) / 4, (2 * (L 1).val + (L 0).val) % 4 * 24, 0] := by
  decide +kernel

theorem blkSet_eq (L : grid0.Coords) : blkSet L = (blk L).set := by
  show ((View.whole (main_v0_scv : Ref sig .scVector)).slice (blk L)).set = _
  rw [View.set_slice]; exact Finset.map_refl

/-- An index lies in subcore `L`'s block exactly when its plane and its group of 24 rows are `L`'s. -/
theorem mem_blkSet (L : grid0.Coords) (y : S8x96x576.Idx) :
    y ∈ blkSet L ↔ (y 0).val * 4 + (y 1).val / 24 = 2 * (L 1).val + (L 0).val := by
  have h2 : (y 2).val < 576 := (y 2).isLt
  have h1 : (y 1).val < 96 := (y 1).isLt
  rw [blkSet_eq, Rect.mem_set_unit, k0_off1_eq]
  constructor
  · intro h
    have a0 := h 0
    have a1 := h 1
    simp at a0 a1
    omega
  · intro h a
    match a with
    | 0 => simp; omega
    | 1 => simp; omega
    | 2 => simp; omega

/-- The subcore's number among the thirty-two, as a pair. -/
abbrev pairs : Finset (Fin 2 × Fin 16) := Finset.univ
abbrev pSet (p : Fin 2 × Fin 16) : Finset S8x96x576.Idx := blkSet (coordsV p.1 p.2)

theorem blks_disjoint : ∀ p ∈ pairs, ∀ p' ∈ pairs, p ≠ p' → Disjoint (pSet p) (pSet p') := by
  intro p _ p' _ h
  rw [Finset.disjoint_left]
  intro y hy hy'
  have h1 := (mem_blkSet _ _).mp hy
  have h2 := (mem_blkSet _ _).mp hy'
  have e : 2 * p.2.val + p.1.val = 2 * p'.2.val + p'.1.val := h1.symm.trans h2
  exact h (Prod.ext (Fin.ext (by have := p.1.isLt; have := p'.1.isLt; omega)) (Fin.ext (by have := p.1.isLt; have := p'.1.isLt; omega)))

theorem blks_cover : pairs.biUnion pSet = Finset.univ := by
  refine Finset.eq_univ_iff_forall.mpr fun y => Finset.mem_biUnion.mpr ?_
  have h0 : (y 0).val < 8 := (y 0).isLt
  have h1 : (y 1).val < 96 := (y 1).isLt
  refine ⟨(⟨((y 0).val * 4 + (y 1).val / 24) % 2, by omega⟩, ⟨((y 0).val * 4 + (y 1).val / 24) / 2, by omega⟩), Finset.mem_univ _, ?_⟩
  refine (mem_blkSet _ _).mpr ?_
  show _ = 2 * (((y 0).val * 4 + (y 1).val / 24) / 2) + ((y 0).val * 4 + (y 1).val / 24) % 2
  omega

/-! ## What the kernel computes: one element of the result -/

variable [FloatOps F] [Named F]

/-- The quantisation of one element: `v * 127.5 + 128`, clipped to `[0, 255.5]`, truncated to an integer level, and the
    level back on the grid of step `2 / 255` that begins at `-1`. -/
def quant (v : F .f32) : F .f32 :=
  FloatOps.subf
    (FloatOps.mulf
      (FloatOps.sitofp .f32 (FloatOps.fptosi 32
        (FloatOps.minimumf
          (FloatOps.maximumf (FloatOps.addf (FloatOps.mulf v (Scalar.ofBits .f32 0x42FF0000#32)) (Scalar.ofBits .f32 0x43000000#32))
            (Scalar.ofBits .f32 0x00000000#32))
          (Scalar.ofBits .f32 0x437F8000#32))))
      (Named.named κ "step" 0x3C008081#32))
    (Scalar.ofBits .f32 0x3F800000#32)

/-! ## What the handshakes carry -/

variable (m : (ℓ : Loc nD τ sig) → Buf (Elt F) ℓ) (xt : (d : Dev nD) → Buf (Elt F) (xLoc d))

/-- The call's result: each element of the transposed argument quantised. -/
def out (d : Dev nD) : Buf (Elt F) (oLoc d) := fun y : S8x96x576.Idx => quant (xt d y : F .f32)

/-- Subcore `L`'s blocks: the operand's at the transposed argument, the result's at `f`. -/
abbrev xBlk (d : Dev nD) (L : grid0.Coords) : sProp 𝕄 := xLoc d ↦[blkSet L]{fullShare} xt d
abbrev oBlk (d : Dev nD) (L : grid0.Coords) (f : Buf (Elt F) (oLoc d)) : sProp 𝕄 := oLoc d ↦[blkSet L]{fullShare} f

/-- What a task takes and what it brings back. -/
abbrev taskIn (d : Dev nD) (L : grid0.Coords) : sProp 𝕄 := iprop(xBlk xt d L ∗ oBlk d L (m (oLoc d)))
abbrev taskOut (d : Dev nD) (L : grid0.Coords) : sProp 𝕄 := iprop(xBlk xt d L ∗ oBlk d L (out xt d))

/-- The call's payloads: each SparseCore takes its sixteen subcores' blocks, each subcore its own; they come back with the
    result's blocks at `out`. -/
def P : (K (F := F)).Pay (nD := nD) (Val := Elt F) (Name := ℕ) (U := UU) where
  st := fun q d c => match q with | 0 => bigSep Finset.univ fun i : Fin 16 => taskIn m xt d (coordsV (Fin.cast nCore_zero c) i)
  dn := fun q d c => match q with | 0 => bigSep Finset.univ fun i : Fin 16 => taskOut xt d (coordsV (Fin.cast nCore_zero c) i)
  go := fun q d c i => match q with | 0 => taskIn m xt d (coordsV (Fin.cast nCore_zero c) (Fin.cast nSub_zero i))
  td := fun q d c i => match q with | 0 => taskOut xt d (coordsV (Fin.cast nCore_zero c) (Fin.cast nSub_zero i))
  x := fun _ _ => iprop(emp)

instance P_storable : (P (F := F) m xt).IsStorable where
  st q d c := match q with
    | 0 => (inferInstance : BI.Storable (upEmb : UEmb _ 𝕄) (bigSep Finset.univ fun i : Fin 16 => taskIn m xt d (coordsV (Fin.cast nCore_zero c) i)))
  dn q d c := match q with
    | 0 => (inferInstance : BI.Storable (upEmb : UEmb _ 𝕄) (bigSep Finset.univ fun i : Fin 16 => taskOut xt d (coordsV (Fin.cast nCore_zero c) i)))
  go q d c i := match q with
    | 0 => (inferInstance : BI.Storable (upEmb : UEmb _ 𝕄) (taskIn m xt d (coordsV (Fin.cast nCore_zero c) (Fin.cast nSub_zero i))))
  td q d c i := match q with
    | 0 => (inferInstance : BI.Storable (upEmb : UEmb _ 𝕄) (taskOut xt d (coordsV (Fin.cast nCore_zero c) (Fin.cast nSub_zero i))))

/-- A SparseCore's share is its tasks' shares. -/
theorem vecSplit : (K (F := F)).VecSplit' (P m xt) 0 := by
  intro d c
  show (bigSep Finset.univ fun i : Fin 16 => taskIn m xt d (coordsV (Fin.cast nCore_zero c) i)) ⊢ |={Set.univ}=> iprop(
      (bigSep Finset.univ fun i : Fin 16 => taskIn m xt d (coordsV (Fin.cast nCore_zero c) i))
      ∗ ((bigSep Finset.univ fun i : Fin 16 => taskOut xt d (coordsV (Fin.cast nCore_zero c) i))
          -∗ bigSep Finset.univ fun i : Fin 16 => taskOut xt d (coordsV (Fin.cast nCore_zero c) i)))
  iintro H; imodintro
  isplitl [H]; · iexact H
  iintro H; iexact H

/-! ## The two SparseCores' shares are the arrays whole -/

/-- An array whole is its thirty-two blocks, by SparseCore and subcore. -/
theorem x_blocks (d : Dev nD) (f : Buf (Elt F) (xLoc d)) :
    (xLoc d ↦{fullShare} f : sProp 𝕄)
      = bigSep Finset.univ fun c : Fin 2 => bigSep Finset.univ fun i : Fin 16 => xLoc d ↦[blkSet (coordsV c i)]{fullShare} f := by
  rw [← bigSep_univ_prod (fun p : Fin 2 × Fin 16 => (xLoc d ↦[pSet p]{fullShare} f : sProp 𝕄)),
    ← pointsTo_biUnion pairs (ℓ := xLoc d) pSet blks_disjoint, blks_cover]; try rfl
theorem o_blocks (d : Dev nD) (f : Buf (Elt F) (oLoc d)) :
    (oLoc d ↦{fullShare} f : sProp 𝕄)
      = bigSep Finset.univ fun c : Fin 2 => bigSep Finset.univ fun i : Fin 16 => oLoc d ↦[blkSet (coordsV c i)]{fullShare} f := by
  rw [← bigSep_univ_prod (fun p : Fin 2 × Fin 16 => (oLoc d ↦[pSet p]{fullShare} f : sProp 𝕄)),
    ← pointsTo_biUnion pairs (ℓ := oLoc d) pSet blks_disjoint, blks_cover]; try rfl

/-- The call takes the transposed argument and the result's array whole; -/
theorem st0_eq (d : Dev nD) :
    (bigSep Finset.univ fun c : Fin ((K (F := F)).nCore 0) => (P m xt).st 0 d c)
      = iprop((xLoc d ↦{fullShare} xt d) ∗ oLoc d ↦{fullShare} m (oLoc d)) := by
  show (bigSep Finset.univ fun c : Fin 2 => bigSep Finset.univ fun i : Fin 16 => taskIn m xt d (coordsV c i)) = _
  rw [bigSep_congr fun _ _ => bigSep_sep' _ _ _, bigSep_sep', ← x_blocks, ← o_blocks]
/-- and hands them back, the result at `out`. -/
theorem dn0_eq (d : Dev nD) :
    (bigSep Finset.univ fun c : Fin ((K (F := F)).nCore 0) => (P m xt).dn 0 d c)
      = iprop((xLoc d ↦{fullShare} xt d) ∗ oLoc d ↦{fullShare} out xt d) := by
  show (bigSep Finset.univ fun c : Fin 2 => bigSep Finset.univ fun i : Fin 16 => taskOut xt d (coordsV c i)) = _
  rw [bigSep_congr fun _ _ => bigSep_sep' _ _ _, bigSep_sep', ← x_blocks, ← o_blocks]

/-! ## The launch's own resources: the handshakes' rounds, nothing of the kernel's own -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m xt).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m xt).x q thr) = bigSep Finset.univ fun _ => iprop(emp) from
    bigSep_congr fun _ _ => bigSep_univ_of_subsingleton (0 : Fin 1), bigSep_emp']
  iempintro

end Cert.Proof.Ideal

end
-- ==== Proof.Tile.lean ====
/-
  One task of the kernel: subcore `L` fetches its block of the transposed operand into its first scratch, quantises it row
  by row into its second scratch (a counted loop of 24 trips, 36 stores of 16 elements each), and copies the second
  scratch out to its block of the result.
-/
module

public import proofs.«01_k».proof.Proof.Launch
public import Idealize.ShloMosaic.Lib.Pipeline.Value

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S8x96x576 EltTy.f32)
local notation "kV" => (Memref.whole Cert.KernelIdeal.main_arg1_scv : Memref Cert.KernelIdeal.sig Kind.scVector Space.hbm Cert.KernelIdeal.S256 EltTy.f32)
local notation "oV" => (Memref.whole Cert.KernelIdeal.main_v1_scv : Memref Cert.KernelIdeal.sig Kind.scVector Space.hbm Cert.KernelIdeal.S8x96x576 EltTy.f32)
local notation "sX" => (Memref.whole Cert.KernelIdeal.cc0_scratch0 : Memref Cert.KernelIdeal.sig Kind.scVector Space.vmem Cert.KernelIdeal.S24x576 EltTy.f32)
local notation "sO" => (Memref.whole Cert.KernelIdeal.cc0_scratch1 : Memref Cert.KernelIdeal.sig Kind.scVector Space.vmem Cert.KernelIdeal.S24x576 EltTy.f32)

variable [FloatOps F] [Named F]
variable (m : (ℓ : Loc nD τ sig) → Buf (Elt F) ℓ) (xt : (d : Dev nD) → Buf (Elt F) (xLoc d))

section Tile

variable (d : Dev nD) (L : grid0.Coords)

abbrev cV (L : grid0.Coords) : Fin τ.nSC := (L 0).castLE hcore0
abbrev jV (L : grid0.Coords) : Fin τ.nSub := (L 1).castLE hsub0

/-- The task's blocks of the operand and of the result, as the body spells them. -/
abbrev xBlkK (L : grid0.Coords) : Memref sig .scVector .hbm S24x576 .f32 := ((xV).slice (blk L) (fun _ => rfl)).squeeze S24x576 squeezes_S1x24x576_S24x576
abbrev oBlkK (L : grid0.Coords) : Memref sig .scVector .hbm S24x576 .f32 := ((oV).slice (blk L) (fun _ => rfl)).squeeze S24x576 squeezes_S1x24x576_S24x576

omit [FloatOps F] [Named F] in
theorem set_xBlkK : (xBlkK L).view.set = blkSet L := by
  show (((xV).view.slice (blk L)).reshape S24x576 squeezes_S1x24x576_S24x576.numel_eq).set = ((xV).view.slice (blk L)).set
  rw [View.set_reshape]
omit [FloatOps F] [Named F] in
theorem set_oBlkK : (oBlkK L).view.set = blkSet L := by
  show (((oV).view.slice (blk L)).reshape S24x576 squeezes_S1x24x576_S24x576.numel_eq).set = ((xV).view.slice (blk L)).set
  rw [View.set_reshape]; rfl

omit [FloatOps F] [Named F] in
theorem pts_xBlkK (f : Buf (Elt F) (xLoc d)) :
    ((xBlkK L).view.loc (V d (cV L) (jV L)) ↦[(xBlkK L).view.set]{fullShare} f : sProp 𝕄) = xLoc d ↦[blkSet L]{fullShare} f := by
  rw [set_xBlkK]
omit [FloatOps F] [Named F] in
theorem pts_oBlkK (f : Buf (Elt F) (oLoc d)) :
    ((oBlkK L).view.loc (V d (cV L) (jV L)) ↦[(oBlkK L).view.set]{fullShare} f : sProp 𝕄) = oLoc d ↦[blkSet L]{fullShare} f := by
  rw [set_oBlkK]
omit [FloatOps F] [Named F] in
theorem pts_sX (f : Buf (Elt F) ((V d (cV L) (jV L)).loc cc0_scratch0)) :
    ((sX).view.loc (V d (cV L) (jV L)) ↦{fullShare} f : sProp 𝕄) = (V d (cV L) (jV L)).loc cc0_scratch0 ↦{fullShare} f := rfl
omit [FloatOps F] [Named F] in
theorem pts_sO (f : Buf (Elt F) ((V d (cV L) (jV L)).loc cc0_scratch1)) :
    ((sO).view.loc (V d (cV L) (jV L)) ↦{fullShare} f : sProp 𝕄) = (V d (cV L) (jV L)).loc cc0_scratch1 ↦{fullShare} f := rfl

/-- The two scoped transfer semaphores: the fetch's and the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] [Named F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] [Named F] in
/-- The subcore's own buffers are the two scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Rows below `k` of the second scratch hold the first scratch's quantised. -/
def done (X : Buf (Elt F) ((V d (cV L) (jV L)).loc cc0_scratch0)) (f : Buf (Elt F) ((V d (cV L) (jV L)).loc cc0_scratch1)) (k : ℕ) : Prop :=
  ∀ y : S24x576.Idx, (y 0).val < k → (sO).view.read (Elt F) f y = quant ((sX).view.read (Elt F) X y)

/-- The loop's invariant: the first scratch at `X`, the second with its rows below the trip done. -/
def inv (X : Buf (Elt F) ((V d (cV L) (jV L)).loc cc0_scratch0)) (k : Nat) (_ : PUnit) : sProp 𝕄 :=
  iprop(((sX).view.loc (V d (cV L) (jV L)) ↦{fullShare} X)
    ∗ ∃ f, ⌜done d L X f k⌝ ∗ ((sO).view.loc (V d (cV L) (jV L)) ↦{fullShare} f))

/-- Sixteen elements as the body quantises them: flattened, quantised one by one, and given back their row. -/
abbrev quant16 (v : Vec F S1x16 .f32) : Vec F S1x16 .f32 :=
  shapeCast S1x16 (fun j => quant (shapeCast S16 v shapeCasts_S1x16_S16 j) : FVec F S16 .f32) shapeCasts_S16_S1x16

/-- The reshapes cancel. -/
theorem quant16_eq (v : Vec F S1x16 .f32) : quant16 v = fun x => quant (v x) :=
  shapeCast_shapeCast (fun x => quant (v x)) shapeCasts_S1x16_S16 shapeCasts_S16_S1x16

/-- A list of stores that has filled the first `16 * n` columns of row `k` and touched no row before it. -/
def Filled (X : Buf (Elt F) ((V d (cV L) (jV L)).loc cc0_scratch0)) (f : Buf (Elt F) ((V d (cV L) (jV L)).loc cc0_scratch1)) (k n : ℕ)
    (W : List (View.Piece (Elt F) S24x576 .f32)) : Prop :=
  ∀ y : S24x576.Idx,
    ((y 0).val < k → (sO).view.read (Elt F) ((sO).view.writes (Elt F) f W) y = (sO).view.read (Elt F) f y)
    ∧ ((y 0).val = k → (y 1).val < 16 * n →
        (sO).view.read (Elt F) ((sO).view.writes (Elt F) f W) y = quant ((sX).view.read (Elt F) X y))

theorem Filled.nil (X f k) : Filled (F := F) d L X f k 0 [] :=
  fun _ => ⟨fun _ => rfl, fun _ h => absurd h (by omega)⟩

/-- One more store: the next sixteen columns of the row. -/
theorem Filled.cons {X f k} (n : ℕ) {W : List (View.Piece (Elt F) S24x576 .f32)} {off : Fin 2 → ℕ}
    {inb : ∀ a, off a + S1x16.size a ≤ S24x576.size a} {w : Vec F S1x16 .f32} (ho : off = ![k, 16 * n])
    (hw : w = quant16 (View.readAt (Elt F) (sX).view (Rect.unit (s := S24x576) off S1x16.size inb).toLoadRect X))
    (h : Filled (F := F) d L X f k n W) : Filled d L X f k (n + 1) (⟨Rect.unit (s := S24x576) off S1x16.size inb, w⟩ :: W) := by
  subst hw
  have mem : ∀ y : S24x576.Idx, y ∈ (Rect.unit (s := S24x576) off S1x16.size inb).set
      ↔ (y 0).val = k ∧ 16 * n ≤ (y 1).val ∧ (y 1).val < 16 * n + 16 := by
    intro y
    rw [Rect.mem_set_unit, ho]
    constructor
    · intro h
      have a0 := h 0
      have a1 := h 1
      simp at a0 a1
      omega
    · intro h a
      match a with
      | 0 => simp; omega
      | 1 => simp; omega
  intro y
  by_cases hy : y ∈ (Rect.unit (s := S24x576) off S1x16.size inb).set
  · refine ⟨fun h0 => absurd ((mem y).mp hy).1 (by omega), fun _ _ => ?_⟩
    obtain ⟨x, hx⟩ : ∃ x, (Rect.unit (s := S24x576) off S1x16.size inb).emb x = y := LoadRect.exists_idx_of_mem _ hy
    subst hx
    rw [View.read_writes_cons_emb, quant16_eq]
    rfl
  · rw [View.read_writes_cons_miss _ _ _ _ _ hy]
    refine ⟨(h y).1, fun h0 h1 => (h y).2 h0 ?_⟩
    by_contra hc
    exact hy ((mem y).mpr ⟨h0, by omega, by omega⟩)

/-- A row filled is one more row done. -/
theorem done_of_filled {X f k} {W : List (View.Piece (Elt F) S24x576 .f32)} (key : Filled (F := F) d L X f k 36 W) (hf : done d L X f k) :
    done d L X ((sO).view.writes (Elt F) f W) (k + 1) := by
  intro y hy
  have h1 : (y 1).val < 576 := (y 1).isLt
  by_cases h0 : (y 0).val < k
  · exact ((key y).1 h0).trans (hf y h0)
  · exact (key y).2 (by omega) (by omega)

set_option maxHeartbeats 4000000 in
/-- One trip of the loop: row `k` quantised. -/
theorem trip (X : Buf (Elt F) ((V d (cV L) (jV L)).loc cc0_scratch0)) (k : Fin k0_t1_loop.trips) (u : PUnit) :
    inv d L X k.val u ⊢ wp frame (wpE (defs₀ (F := F)) 𝒱₀ (V d (cV L) (jV L)) none) Set.univ
      (k0_t1_body L xV (Memref.isWhole_whole _) kV (Memref.isWhole_whole _) oV (Memref.isWhole_whole _) sX (Memref.isWhole_whole _)
        sO (Memref.isWhole_whole _) cc0_scoped0 cc0_scoped1 k u) fun u' => inv d L X (k.val + 1) u' := by
  unfold inv
  iintro ⟨HX, %f, %hf, HO⟩
  sl_unfold [k0_t1_body]
  sl_exec
  iapply le_wp_ret
  isplitl [HX]; · iexact HX
  iexists _
  isplitr; swap; · iexact HO
  ipureintro
  refine done_of_filled d L ?_ hf
  refine Filled.cons d L 35 (k0_off37_eq k) rfl ?_
  refine Filled.cons d L 34 (k0_off36_eq k) rfl ?_
  refine Filled.cons d L 33 (k0_off35_eq k) rfl ?_
  refine Filled.cons d L 32 (k0_off34_eq k) rfl ?_
  refine Filled.cons d L 31 (k0_off33_eq k) rfl ?_
  refine Filled.cons d L 30 (k0_off32_eq k) rfl ?_
  refine Filled.cons d L 29 (k0_off31_eq k) rfl ?_
  refine Filled.cons d L 28 (k0_off30_eq k) rfl ?_
  refine Filled.cons d L 27 (k0_off29_eq k) rfl ?_
  refine Filled.cons d L 26 (k0_off28_eq k) rfl ?_
  refine Filled.cons d L 25 (k0_off27_eq k) rfl ?_
  refine Filled.cons d L 24 (k0_off26_eq k) rfl ?_
  refine Filled.cons d L 23 (k0_off25_eq k) rfl ?_
  refine Filled.cons d L 22 (k0_off24_eq k) rfl ?_
  refine Filled.cons d L 21 (k0_off23_eq k) rfl ?_
  refine Filled.cons d L 20 (k0_off22_eq k) rfl ?_
  refine Filled.cons d L 19 (k0_off21_eq k) rfl ?_
  refine Filled.cons d L 18 (k0_off20_eq k) rfl ?_
  refine Filled.cons d L 17 (k0_off19_eq k) rfl ?_
  refine Filled.cons d L 16 (k0_off18_eq k) rfl ?_
  refine Filled.cons d L 15 (k0_off17_eq k) rfl ?_
  refine Filled.cons d L 14 (k0_off16_eq k) rfl ?_
  refine Filled.cons d L 13 (k0_off15_eq k) rfl ?_
  refine Filled.cons d L 12 (k0_off14_eq k) rfl ?_
  refine Filled.cons d L 11 (k0_off13_eq k) rfl ?_
  refine Filled.cons d L 10 (k0_off12_eq k) rfl ?_
  refine Filled.cons d L 9 (k0_off11_eq k) rfl ?_
  refine Filled.cons d L 8 (k0_off10_eq k) rfl ?_
  refine Filled.cons d L 7 (k0_off9_eq k) rfl ?_
  refine Filled.cons d L 6 (k0_off8_eq k) rfl ?_
  refine Filled.cons d L 5 (k0_off7_eq k) rfl ?_
  refine Filled.cons d L 4 (k0_off6_eq k) rfl ?_
  refine Filled.cons d L 3 (k0_off5_eq k) rfl ?_
  refine Filled.cons d L 2 (k0_off4_eq k) rfl ?_
  refine Filled.cons d L 1 (k0_off3_eq k) rfl ?_
  refine Filled.cons d L 0 (k0_off2_eq k) rfl ?_
  exact Filled.nil d L X f k.val

/-- The copy out: a block of the result filled with quantised elements of the operand's block is that block of `out`. -/
theorem block_out (g : Buf (Elt F) (oLoc d)) (w : Vec F S24x576 .f32)
    (hw : ∀ y, w y = quant ((xBlkK L).view.read (Elt F) (xt d) y)) :
    ((oBlkK L).view.loc (V d (cV L) (jV L)) ↦[(oBlkK L).view.set]{fullShare}
        (oBlkK L).view.writes (Elt F) g [⟨Rect.whole S24x576, w⟩] : sProp 𝕄)
      = (oLoc d ↦[blkSet L]{fullShare} out xt d) := by
  rw [← pts_oBlkK]
  refine pointsTo_congr fun i hi => ?_
  obtain ⟨x, rfl⟩ : ∃ x, (oBlkK L).view.emb x = i := by
    obtain ⟨x, -, hx⟩ := Finset.mem_map.mp hi
    exact ⟨x, hx⟩
  refine (congrFun (View.write_univ_eq_writes_whole (oBlkK L).view g [] w).symm _).trans ?_
  refine (View.write_emb_of_mem _ _ (Finset.mem_univ x)).trans ?_
  exact hw x

set_option maxHeartbeats 4000000 in
/-- The task of subcore `L`: from its two blocks, the operand's at the transposed argument, to the same two, the result's
    at the quantised argument. -/
theorem tile_body (hF : (K (F := F)).Facts) (O : CellTallies nD τ sig (HIx 1)) (W : Waits sig (HIx 1)) (hO : ∀ g, O g none = 0) :
    iprop(levAts (K (F := F)).L (K (F := F)).lev ∗ emp ∗ taskIn m xt d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__quantize_body L xV (Memref.isWhole_whole _) kV (Memref.isWhole_whole _) oV (Memref.isWhole_whole _)
            sX (Memref.isWhole_whole _) sO (Memref.isWhole_whole _) cc0_scoped0 cc0_scoped1)
          fun _ => iprop(taskOut xt d L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xBlkK (F := F) d L _).symm) $$ Hx
  ihave Ho' := (Entails.of_eq (pts_oBlkK (F := F) d L _).symm) $$ Ho
  ihave Hs' := (Entails.of_eq (pts_sX (F := F) d L _).symm) $$ Hs
  ihave Hc' := (Entails.of_eq (pts_sO (F := F) d L _).symm) $$ Hc
  sl_unfold [cc0__quantize_body]
  sl_exec (disch := exact View.amount_pos _ _ (show 0 < S24x576.numel by decide))
  sl_for (inv d L (View.write (Elt F) (sX).view fs ((xBlkK L).view.read (Elt F) (xt d)) Finset.univ)) $$ [Hs' Hc']
  case region =>
    intro k u
    exact trip d L _ k u
  · unfold inv
    isplitl [Hs']; · iexact Hs'
    iexists fc; isplitr; swap; · iexact Hc'
    ipureintro
    intro y hy
    exact absurd hy (by omega)
  iintro %_ HI
  unfold inv
  icases HI with ⟨Hs', %f, %hf, Hc'⟩
  have hw : ∀ y, (sO).view.read (Elt F) f y = quant ((xBlkK L).view.read (Elt F) (xt d) y) := by
    intro y
    refine (hf y (y 0).isLt).trans ?_
    rw [View.read_write_univ]
  sl_exec (disch := exact View.amount_pos _ _ (show 0 < S24x576.numel by decide))
  sl_step
  isplitl [Hx' Ho']
  · isplitl [Hx']; · iapply (Entails.of_eq (pts_xBlkK (F := F) d L _)); iexact Hx'
    iapply (Entails.of_eq (block_out xt d L (m (oLoc d)) _ hw)); iexact Ho'
  isplitl [Hs' Hc' Hbufs]
  · isplitl [Hs']; · iexists _; iexact Hs'
    isplitl [Hc']; · iexists _; iexact Hc'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

/-! ## The obligation -/

theorem defs₀_vector (c : Fin τ.nSC) (s : Fin τ.nSub) :
    defs₀ (F := F) (.scVector c s) 0 ()
      = SparseCore.onTile hcore0 hsub0 (fun c s => cc0__quantize_body (coordsV c s)
          xV (Memref.isWhole_whole _) kV (Memref.isWhole_whole _) oV (Memref.isWhole_whole _)
          sX (Memref.isWhole_whole _) sO (Memref.isWhole_whole _) cc0_scoped0 cc0_scoped1) ⟨⟩ c s := rfl

/-- Every task of the call meets its obligation. -/
theorem tileObl (hF : (K (F := F)).Facts) : (K (F := F)).TileObl (D (F := F)) 𝒱 (P m xt) v₀ 0 := by
  intro d c i O W hO _ _
  simp only [show (P m xt).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m xt d (coordsV ⟨_, hci.1⟩ ⟨_, hci.2⟩) hF O W hO

end Tile

end Cert.Proof.Ideal

end
-- ==== Proof.Main.lean ====
/-
  The kernel's whole program: the transpose on the TensorCore, the SparseCore call, the transpose back. From every launch
  state the run ends with the arguments as they were, the result at the argument quantised element by element, and every
  semaphore at zero.
-/
module

public import proofs.«01_k».proof.Proof.Tile

@[expose] public section

noncomputable section

namespace Cert.Proof.Ideal

open Cert.KernelIdeal Cert.KernelIdeal.Gen

open Idealize.ShloMosaic
open Idealize.ShloMosaic.StableHlo
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]
variable (m : (ℓ : Loc nD τ sig) → Buf (Elt F) ℓ) (ρ : Dev nD → PrngReg)

/-! ## The two host operations -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The transpose before the call, -/
abbrev opIn : HloOp τ sig (Elt F) :=
  StableHlo.unary main_arg0 main_v0 ((transpose S8x96x576 [0, 2, 1] · transposes_S8x576x96_S8x96x576_0_2_1) : (⟨S8x576x96, .f32⟩ : BufTy).Contents (Elt F) → (⟨S8x96x576, .f32⟩ : BufTy).Contents (Elt F))
/-- and the one after it. -/
abbrev opOut : HloOp τ sig (Elt F) :=
  StableHlo.unary main_v1 main_v2 ((transpose S8x576x96 [0, 2, 1] · transposes_S8x96x576_S8x576x96_0_2_1) : (⟨S8x96x576, .f32⟩ : BufTy).Contents (Elt F) → (⟨S8x576x96, .f32⟩ : BufTy).Contents (Elt F))

/-- The argument transposed: what the call reads. -/
def xt (d : Dev nD) : Buf (Elt F) (xLoc d) := transpose S8x96x576 [0, 2, 1] (m (aLoc d)) transposes_S8x576x96_S8x96x576_0_2_1
/-- The call's result transposed back: the program's result. -/
def res (d : Dev nD) : Buf (Elt F) (rLoc d) := transpose S8x576x96 [0, 2, 1] (out (xt m) d) transposes_S8x96x576_S8x576x96_0_2_1

/-- The program's result is the argument quantised element by element. -/
theorem res_apply (d : Dev nD) (i : S8x576x96.Idx) : res m d i = quant (m (aLoc d) i : F .f32) := by
  show quant (m (aLoc d) _ : F .f32) = _
  congr 1
  congr 1
  funext a
  match a with
  | 0 => rfl
  | 1 => rfl
  | 2 => rfl

abbrev SIn : Finset (DevRef τ sig) := {a', x'}
abbrev SOut : Finset (DevRef τ sig) := {o', r'}

omit [FloatOps F] [Named F] in
theorem held_SIn (d : Dev nD) (W : Valuation τ sig (Elt F)) :
    (held (T d) SIn W : sProp 𝕄) = iprop((aLoc d ↦{fullShare} W a') ∗ xLoc d ↦{fullShare} W x') := by
  unfold held SIn
  rw [SparseCore.bigSep_insert' (by decide), bigSep_singleton]
omit [FloatOps F] [Named F] in
theorem held_SOut (d : Dev nD) (W : Valuation τ sig (Elt F)) :
    (held (T d) SOut W : sProp 𝕄) = iprop((oLoc d ↦{fullShare} W o') ∗ rLoc d ↦{fullShare} W r') := by
  unfold held SOut
  rw [SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (cLoc d ↦{fullShare} W main_arg1) ∗ (xLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch's contents, and the same after the call. -/
def V0 (d : Dev nD) : Valuation τ sig (Elt F) := fun b => m (d, b)
def V1 (d : Dev nD) : Valuation τ sig (Elt F) := Function.update (V0 m d) o' (out (xt m) d)

theorem V1_o (d : Dev nD) : V1 m d o' = out (xt m) d := Function.update_self _ _ _
theorem V1_r (d : Dev nD) : V1 m d r' = m (rLoc d) := Function.update_of_ne (show r' ≠ o' by decide) _ _

/-- The first transpose, over the argument and its transposed copy; -/
theorem held_in (d : Dev nD) :
    (held (T d) SIn ((opIn (F := F)).result (V0 m d)) : sProp 𝕄) = iprop((aLoc d ↦{fullShare} m (aLoc d)) ∗ xLoc d ↦{fullShare} xt m d) := by
  rw [held_SIn, unary_result_ne' _ _ _ _ (show (main_arg0 : Ref sig .tc) ≠ main_v0 by decide), unary_result']
  rfl
/-- the second, over the call's result and the program's. -/
theorem held_out (d : Dev nD) :
    (held (T d) SOut ((opOut (F := F)).result (V1 m d)) : sProp 𝕄)
      = iprop((oLoc d ↦{fullShare} out (xt m) d) ∗ rLoc d ↦{fullShare} res m d) := by
  rw [held_SOut, unary_result_ne' _ _ _ _ (show (main_v1 : Ref sig .tc) ≠ main_v2 by decide), unary_result', V1_o]
  rfl

/-! ## @main -/

/-- What @main leaves the claim: the arguments as they were, and the result. -/
abbrev FIN (d : Dev nD) : sProp 𝕄 :=
  iprop((aLoc d ↦{fullShare} m (aLoc d)) ∗ (cLoc d ↦{fullShare} m (cLoc d)) ∗ rLoc d ↦{fullShare} res m d)

/-- @main on device `d`'s TensorCore: the transpose, the call, the transpose back. -/
theorem hmain (κ : GSem nD τ sig → ℕ) (d : Dev nD) :
    iprop((K (F := F)).ctx EH (P m (xt m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hc, Hx, Ho, Hr⟩, Hts, -⟩, -⟩
  -- the transpose
  iapply (wp_hlo_within 𝒱 (SparseCore.T d) none Set.univ (op := opIn) (S := SIn)
    (show ({a', x'} : Finset (DevRef τ sig)) ⊆ SIn by decide) (V := V0 m d)) $$ [Hb Ha Hx]
  · isplitl [Hb]; · iexact Hb
    rw [held_SIn]
    isplitl [Ha]; · iexact Ha
    iexact Hx
  iintro ⟨Hb, Hheld⟩
  ihave Hh := (Entails.of_eq (held_in (F := F) m d)) $$ Hheld
  icases Hh with ⟨Ha, Hx⟩
  rw [wp_ret]; imodintro
  -- the call
  iapply ((K (F := F)).wp_run (D (F := F)) 𝒱 (EH := EH) (P := P m (xt m)) κ d 0) $$ [Hst Hx Ho Ha Hc Hb Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m (xt m) d)) $$ Hdn
  icases Hdn' with ⟨-, Ho⟩
  -- the transpose back
  iapply (wp_hlo_within 𝒱 (SparseCore.T d) none Set.univ (op := opOut) (S := SOut)
    (show ({o', r'} : Finset (DevRef τ sig)) ⊆ SOut by decide) (V := V1 m d)) $$ [Hb Ho Hr]
  · isplitl [Hb]; · iexact Hb
    rw [held_SOut, V1_o, V1_r]
    isplitl [Ho]; · iexact Ho
    iexact Hr
  iintro ⟨Hb, Hheld⟩
  ihave Hh := (Entails.of_eq (held_out (F := F) m d)) $$ Hheld
  icases Hh with ⟨-, Hr⟩
  rw [wp_ret]; imodintro; imodintro
  isplitl [Hst]; · iexact Hst
  isplitr [Hb Hts]
  · isplitl [Ha]; · iexact Ha
    isplitl [Hc]; · iexact Hc
    iexact Hr
  isplitl [Hb] <;> iassumption

/-- What is read of a final state: the arguments and the result on device `d`. -/
def fq (d : Dev nD) (s' : Phys nD τ sig (Elt F)) : Prop :=
  s'.mem.mem (aLoc d) = m (aLoc d) ∧ s'.mem.mem (cLoc d) = m (cLoc d) ∧ s'.mem.mem (rLoc d) = res m d

theorem hfin (d : Dev nD) (s' : Phys nD τ sig (Elt F)) : iprop(FIN m d ∗ SI s') ⊢ (⌜fq m d s'⌝ : sProp 𝕄) := by
  iintro ⟨⟨Ha, Hc, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (SI_pointsTo_agree (st := s') (ℓ := rLoc d) (I := Finset.univ) (q := fullShare) (f := res m d)) $$ [HSI Hr]
  · isplitl [HSI] <;> iassumption
  icases H with %hr
  ipureintro
  exact ⟨funext fun i => ha i (Finset.mem_univ i), funext fun i => hc i (Finset.mem_univ i), funext fun i => hr i (Finset.mem_univ i)⟩

/-! ## The program's run -/

/-- The run's post: the arguments unchanged, the result at `res`, every semaphore at zero. -/
def QC : PUnit × MemSt nD τ sig (Elt F) → Prop := fun r =>
  (∀ c : Dev nD, r.2.mem (aLoc c) = m (aLoc c) ∧ r.2.mem (cLoc c) = m (cLoc c) ∧ r.2.mem (rLoc c) = res m c) ∧ r.2.sem = fun _ => 0

/-- Every weakly fair run of the program from any launch contents ends in `QC`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (xt m)) (A := ∅) facts v₀
    (fun q hq => match q with | 0 => nomatch hq)
    (fun q _ => match q with | 0 => tileObl m (xt m) facts)
    (fun q _ => match q with | 0 => SparseCore.Cfg.VecSplit.of_plain (vecSplit m (xt m)))
    m ρ main (fun _ => iprop(emp)) (FIN m) (u₀ (F := F)) (sep_elim_left.trans (hu₀ m (xt m))) (hmain m ρ) (fq m) (hfin m) (QC m) (fun _ h hz => ⟨h, hz⟩)

end Cert.Proof.Ideal

end
-- ==== Proof.Frames.lean ====
/-
  The frames: the printed kernel and its idealisation run, leave their arguments as they were and every semaphore at zero.
  Both are the one run of `Proof.Main` with the result dropped. The two programs have the same text except that the
  idealisation names the constant `step`; at the printed kernel's instance that name is read as the constant's own bits.
-/
module

public import proofs.«01_k».proof.Proof.Main
public import proofs.«01_k».proof.Proof.Gen.Kernel
public import proofs.«01_k».proof.Proof.Gen.Pre_nearest_is_unique

@[expose] public section

noncomputable section

namespace Cert.Proof.Ideal

open Idealize.ShloMosaic
open Idealize.SL Idealize.SL.Sem

/-- The idealised kernel's frame. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The same under a precondition, which it does not need. -/
theorem frame_ideal_pre : Cert.quiescent_KernelIdeal_pre_nearest_is_unique := fun m ρ _ => frame_ideal m ρ trivial

/-- A named constant read as its own bits: the printed kernel's reading. -/
abbrev bitsNamed : Named Bits := ⟨fun _ _ {φ} b => Scalar.ofBits (F := Bits) φ b⟩

/-- The printed kernel's frame. -/
theorem frame_kernel : Cert.quiescent_Kernel := fun m ρ _ =>
  letI := bitsNamed
  (θ_run Cert.Kernel.defs _ _).mono (fun _ h => ⟨fun c => ⟨(h.1 c).1, (h.1 c).2.1⟩, h.2⟩) (run_main (F := Bits) m ρ)

end Cert.Proof.Ideal

end
-- ==== Proof.RefRun.lean ====
/-
  The run of the REFERENCE program (../ReferenceIdeal.lean, `Cert.ReferenceIdeal`): host operations only, no kernel.
  @main is a straight line of operations (`ops`, `main_eq`), so the library's `StableHlo.run_seq` runs it: every buffer
  ends at the operations' results folded over the launch contents. The fold is named here step by step over whole
  arrays — the distances (`dist`), the index of the nearest centre (`best`), the centre taken at that index (`taken`),
  the result (`out`) — and `out_eq` reads it at the result buffer. Everything is stated for any float values.
-/
module

public import Idealize.ShloMosaic.Lib.StableHlo.RunRead
public import Idealize.ShloMosaic.Lib.Quiescent
public import proofs.«01_k».proof.Proof.Gen.ReferenceIdeal
public import proofs.«01_k».proof.Proof.Gen.Pre_nearest_is_unique
public import proofs.«01_k».proof.Defs

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The values, step by step -/

/-- The distances |x − centre|, one row per element of `x` and one column per centre. -/
def dist (x : (⟨S8x576x96, .f32⟩ : BufTy).Contents (Elt F)) (c : (⟨S256, .f32⟩ : BufTy).Contents (Elt F)) :
    (⟨S442368x256, .f32⟩ : BufTy).Contents (Elt F) :=
  Host.absf (subf
    (broadcastInDim S442368x256 ![0, 1] bcast_S442368x1_S442368x256_0_1 (shapeCast S442368x1 x shapeCasts_S8x576x96_S442368x1))
    (broadcastInDim S442368x256 ![0, 1] bcast_S1x256_S442368x256_0_1 (broadcastInDim S1x256 ![1] bcast_S256_S1x256_1 c)))

/-- The index of the least entry of each row. -/
def best (d : (⟨S442368x256, .f32⟩ : BufTy).Contents (Elt F)) : (⟨S442368, .i32⟩ : BufTy).Contents (Elt F) :=
  fun j => (Host.argReduce reducer_argmin_f32_i32 d (iotaInDim S442368x256 32 1) (constant S_ .f32 0x7F800000#32)
    (constantI S_ 32 0#32) reducesTo_S442368x256_S442368_d1 h_S_ j).2

/-- The indices with a negative one counted from the end, as a column. -/
def wrapped (i : (⟨S442368, .i32⟩ : BufTy).Contents (Elt F)) : (⟨S442368x1, .i32⟩ : BufTy).Contents (Elt F) :=
  broadcastInDim S442368x1 ![0] bcast_S442368_S442368x1_0
    (select (cmpi .slt i (broadcastInDim S442368 ![] bcast_S_S442368 (constantI S_ 32 0#32)))
      (addi i (broadcastInDim S442368 ![] bcast_S_S442368 (constantI S_ 32 256#32))) i)

/-- Where the index lies in the centres. -/
def inside (w : (⟨S442368x1, .i32⟩ : BufTy).Contents (Elt F)) : (⟨S442368, .i1⟩ : BufTy).Contents (Elt F) :=
  Host.reduce IntOp.andi
    (andi (cmpi .sge w (broadcastInDim S442368x1 ![] bcast_S_S442368x1 (constantI S_ 32 0#32)))
      (cmpi .sle w (broadcastInDim S442368x1 ![0, 1] bcast_S1x1_S442368x1_0_1
        (broadcastInDim S1x1 ![1] bcast_S1_S1x1_1 (constantI S1 32 255#32)))))
    (constantI S_ 1 1#1) reducesTo_S442368x1_S442368_d1 h_S_

/-- The centre at each index, a NaN where the index lies outside. -/
def taken (c : (⟨S256, .f32⟩ : BufTy).Contents (Elt F)) (i : (⟨S442368, .i32⟩ : BufTy).Contents (Elt F)) :
    (⟨S442368, .f32⟩ : BufTy).Contents (Elt F) :=
  select (inside (F := F) (wrapped (F := F) i))
    (Host.gather gather_S256_S442368x1_S442368_n_0_n_n_0_1_1 c (wrapped (F := F) i))
    (broadcastInDim S442368 ![] bcast_S_S442368 (constant S_ .f32 0x7FC00000#32))

/-- The result: x + (q − x) at the nearest centre q. -/
def out (x : (⟨S8x576x96, .f32⟩ : BufTy).Contents (Elt F)) (c : (⟨S256, .f32⟩ : BufTy).Contents (Elt F)) :
    (⟨S8x576x96, .f32⟩ : BufTy).Contents (Elt F) :=
  addf x (subf (shapeCast S8x576x96 (taken c (best (dist x c))) shapeCasts_S442368_S8x576x96) x)

/-! ## The run -/

/-- The operations of the function that finds the index of the least entry of each row. -/
abbrev argminOps (arg0 : TRef sig ⟨S442368x256, .f32⟩) (φ : fn_argmin.Bufs) : List (HloOp τ sig (Elt F)) :=
  [ TRef.nullary φ.v0 (iotaInDim S442368x256 32 1),
    TRef.nullary φ.cst (constant S_ .f32 0x7F800000#32),
    TRef.nullary φ.c (constantI S_ 32 0#32),
    TRef.quaternary arg0 φ.v0 φ.cst φ.c φ.v1_0
      (fun x y u v j => (Host.argReduce reducer_argmin_f32_i32 x y u v reducesTo_S442368x256_S442368_d1 h_S_ j).1),
    TRef.quaternary arg0 φ.v0 φ.cst φ.c φ.v1_1
      (fun x y u v j => (Host.argReduce reducer_argmin_f32_i32 x y u v reducesTo_S442368x256_S442368_d1 h_S_ j).2) ]

/-- The operations of the function that takes the entries of a table at given indices. -/
abbrev takeOps (arg0 : TRef sig ⟨S256, .f32⟩) (arg1 : TRef sig ⟨S442368, .i32⟩) (φ : fn_take.Bufs) :
    List (HloOp τ sig (Elt F)) :=
  [ TRef.nullary φ.c (constantI S_ 32 0#32),
    TRef.unary φ.c φ.v0 (broadcastInDim S442368 ![] bcast_S_S442368),
    TRef.binary arg1 φ.v0 φ.v1 (cmpi .slt),
    TRef.nullary φ.c_0 (constantI S_ 32 256#32),
    TRef.unary φ.c_0 φ.v2 (broadcastInDim S442368 ![] bcast_S_S442368),
    TRef.binary arg1 φ.v2 φ.v3 addi,
    TRef.ternary φ.v1 φ.v3 arg1 φ.call0.v0 select,
    TRef.unary φ.call0.v0 φ.v5 (broadcastInDim S442368x1 ![0] bcast_S442368_S442368x1_0),
    TRef.nullary φ.c_1 (constantI S1 32 255#32),
    TRef.nullary φ.c_2 (constantI S_ 32 0#32),
    TRef.unary φ.c_2 φ.v6 (broadcastInDim S442368x1 ![] bcast_S_S442368x1),
    TRef.binary φ.v5 φ.v6 φ.v7 (cmpi .sge),
    TRef.unary φ.c_1 φ.v8 (broadcastInDim S1x1 ![1] bcast_S1_S1x1_1),
    TRef.unary φ.v8 φ.v9 (broadcastInDim S442368x1 ![0, 1] bcast_S1x1_S442368x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S442368x1_S442368_d1 h_S_),
    TRef.binary arg0 φ.v5 φ.v13 (fun x i => Host.gather gather_S256_S442368x1_S442368_n_0_n_n_0_1_1 x i),
    TRef.nullary φ.cst (constant S_ .f32 0x7FC00000#32),
    TRef.unary φ.cst φ.v14 (broadcastInDim S442368 ![] bcast_S_S442368),
    TRef.ternary φ.v12 φ.v13 φ.v14 φ.v15 select ]

/-- @main's operations, in order, those of the functions it calls in their places. -/
abbrev ops : List (HloOp τ sig (Elt F)) :=
  [ reshape main_arg0 main_v0 (rfl : (.f32 : EltTy) = .f32) shapeCasts_S8x576x96_S442368x1,
    unary main_arg1 main_v1 (broadcastInDim S1x256 ![1] bcast_S256_S1x256_1),
    unary main_v0 main_v2 (broadcastInDim S442368x256 ![0, 1] bcast_S442368x1_S442368x256_0_1),
    unary main_v1 main_v3 (broadcastInDim S442368x256 ![0, 1] bcast_S1x256_S442368x256_0_1),
    binary main_v2 main_v3 main_v4 subf,
    unary main_v4 main_v5 Host.absf ]
  ++ argminOps (.of main_v5) main_call0
  ++ takeOps (.of main_arg1) (.of main_v6) main_call1
  ++ [ reshape main_v7 main_v8 (rfl : (.f32 : EltTy) = .f32) shapeCasts_S442368_S8x576x96,
    binary main_v8 main_arg0 main_v9 subf,
    binary main_arg0 main_v9 main_v10 addf ]

/-- @main is that straight line. -/
theorem main_eq (c : Dev nD) : main (F := F) c = seq ops := rfl

/-- The fold of the operations, at the result's buffer. -/
theorem out_eq (V : Valuation τ sig (Elt F)) :
    after ops V (main_v10 : DevRef τ sig) = out (V (main_arg0 : DevRef τ sig)) (V (main_arg1 : DevRef τ sig)) := by
  after_reads_simp
  simp -implicitDefEqProofs only [TRef.toBuf, TRef.ofBuf, cast_cast, cast_eq]
  unfold out taken inside wrapped best dist
  rfl

/-- No operation writes an argument's buffer. -/
theorem arg0_eq (V : Valuation τ sig (Elt F)) :
    after ops V (main_arg0 : DevRef τ sig) = V (main_arg0 : DevRef τ sig) := by
  after_reads_simp
theorem arg1_eq (V : Valuation τ sig (Elt F)) :
    after ops V (main_arg1 : DevRef τ sig) = V (main_arg1 : DevRef τ sig) := by
  after_reads_simp

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, argminOps, takeOps, List.cons_append, List.nil_append, List.forall_cons, List.Forall, TRef.nullary, TRef.unary,
    TRef.binary, TRef.ternary, TRef.quaternary, nullary_bufs_sub, unary_bufs_sub, binary_bufs_sub, ternary_bufs_sub,
    quaternary_bufs_sub, reshape_bufs_sub, and_self]

/-- From any memory with zero counters: every fair execution of @main terminates, and every final state has the result's
    buffer at `out` of the two arguments' launch contents and the arguments as they were, all counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v10)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v10).trans (out_eq _), (h c main_arg0).trans (arg0_eq _),
      (h c main_arg1).trans (arg1_eq _)⟩, Idealize.ShloMosaic.sem_eq_zero_of_no_sems (by decide) r.2⟩)
    (run_seq scopedRefs_eq scopedSems_eq defs main (fun _ => ops) main_eq (fun _ => ops_sub) m ρ)

/-- `Cert.quiescent_ReferenceIdeal`: the run, read at the two arguments and the counters. -/
theorem frame_reference : Cert.quiescent_ReferenceIdeal := fun m ρ _ =>
  (θ_run defs _ _).mono (fun _ h => ⟨fun c => (h.1 c).2, h.2⟩) (run_main (F := Ideal) m ρ)

/-- The same claim under the precondition, which the run does not need. -/
theorem frame_reference_pre : Cert.quiescent_ReferenceIdeal_pre_nearest_is_unique := fun m ρ _ =>
  (θ_run defs _ _).mono (fun _ h => ⟨fun c => (h.1 c).2, h.2⟩) (run_main (F := Ideal) m ρ)

end Cert.Proof.Ref

end
-- ==== Proof.Nearest.lean ====
/-
  The arithmetic of the claim, over the real numbers. The 256 centres are `grid k = (2k − 255) / 255`, evenly spaced from
  −1 to 1. The kernel finds the level of a real `r` by scaling, clipping and truncating (`level`); the centre of that
  level is the nearest one, strictly nearer than every other, unless `r` lies halfway between two neighbours
  (`level_nearest`). `quant_coe` reads the kernel's expression for one element at a real as `grid (level r)`.
-/
module

public import proofs.«01_k».proof.Proof.Launch

@[expose] public section

noncomputable section

namespace Cert.Proof.Nearest

open Idealize.ShloMosaic

/-- The `k`-th centre. -/
def grid (k : ℕ) : ℝ := (2 * k - 255) / 255

/-- `r` scaled to levels and clipped. -/
def scaled (r : ℝ) : ℝ := min (max (r * (255 / 2) + 128) 0) (511 / 2)

/-- The level the kernel gives `r`. -/
def level (r : ℝ) : ℕ := ⌊scaled r⌋₊

theorem scaled_nonneg (r : ℝ) : 0 ≤ scaled r := le_min (le_max_right _ _) (by norm_num)
theorem scaled_le (r : ℝ) : scaled r ≤ 511 / 2 := min_le_right _ _

theorem level_lt (r : ℝ) : level r < 256 := by
  have h : (level r : ℝ) ≤ 511 / 2 := (Nat.floor_le (scaled_nonneg r)).trans (scaled_le r)
  have : (level r : ℝ) < (256 : ℕ) := by push_cast; linarith
  exact_mod_cast this

/-- The distance to a centre, in levels. -/
theorem abs_sub_grid (r : ℝ) (k : ℕ) : |r - grid k| = |r * (255 / 2) + 255 / 2 - k| * (2 / 255) := by
  rw [show r - grid k = (r * (255 / 2) + 255 / 2 - k) * (2 / 255) by unfold grid; ring, abs_mul,
    abs_of_pos (by norm_num : (0 : ℝ) < 2 / 255)]

/-- Off the points halfway between neighbouring centres, the level's centre is strictly the nearest. -/
theorem level_nearest (r : ℝ) (hr : ∀ k < 255, 2 * r ≠ grid k + grid (k + 1)) {j : ℕ} (hj : j < 256) (hne : j ≠ level r) :
    |r - grid (level r)| < |r - grid j| := by
  have hk := level_lt r
  have h1 : (level r : ℝ) ≤ scaled r := Nat.floor_le (scaled_nonneg r)
  have h2 : scaled r < level r + 1 := Nat.lt_floor_add_one _
  have hmid : ∀ k : ℕ, k < 255 → r * (255 / 2) + 255 / 2 ≠ k + 1 / 2 := by
    intro k hk' h
    refine hr k hk' ?_
    unfold grid; push_cast; linarith
  rw [abs_sub_grid, abs_sub_grid]
  refine mul_lt_mul_of_pos_right ?_ (by norm_num)
  generalize hkk : level r = k at *
  generalize hs : r * (255 / 2) + 255 / 2 = s at *
  have hsc : scaled r = min (max (s + 1 / 2) 0) (511 / 2) := by unfold scaled; rw [← hs]; ring_nf
  rw [hsc] at h1 h2
  -- what the floor says of `s`, by the two ends of the clip
  have hlo : k = 0 ∨ (k : ℝ) - 1 / 2 < s := by
    rcases Nat.eq_zero_or_pos k with h0 | h0
    · exact Or.inl h0
    · right
      have hk1 : (1 : ℝ) ≤ k := by exact_mod_cast h0
      have h3 : (k : ℝ) ≤ max (s + 1 / 2) 0 := h1.trans (min_le_left _ _)
      have h4 : (k : ℝ) ≤ s + 1 / 2 := by
        rcases le_max_iff.1 h3 with h | h
        · exact h
        · linarith
      have h5 : s ≠ ((k - 1 : ℕ) : ℝ) + 1 / 2 := hmid (k - 1) (by omega)
      rw [Nat.cast_sub h0] at h5
      refine lt_of_le_of_ne (by linarith) fun h => h5 ?_
      push_cast; linarith
  have hhi : k = 255 ∨ s < (k : ℝ) + 1 / 2 := by
    rcases Nat.lt_or_ge k 255 with h0 | h0
    · right
      have hk1 : (k : ℝ) + 1 ≤ 255 := by exact_mod_cast h0
      rcases min_lt_iff.1 h2 with h | h
      · have := (le_max_left (s + 1 / 2) 0).trans_lt h
        linarith
      · linarith
    · left; omega
  rcases Nat.lt_or_gt_of_ne hne with hlt | hgt
  · have hjk : (j : ℝ) + 1 ≤ k := by exact_mod_cast hlt
    have hlo' : (k : ℝ) - 1 / 2 < s := by
      rcases hlo with h | h
      · omega
      · exact h
    rw [abs_of_pos (show (0 : ℝ) < s - j by linarith)]
    exact abs_lt.2 ⟨by linarith, by linarith⟩
  · have hjk : (k : ℝ) + 1 ≤ j := by exact_mod_cast hgt
    have hhi' : s < (k : ℝ) + 1 / 2 := by
      rcases hhi with h | h
      · omega
      · exact h
    rw [abs_of_neg (show s - j < (0 : ℝ) by linarith)]
    exact abs_lt.2 ⟨by linarith, by linarith⟩

/-! ## The constants -/

theorem bits_127_5 : Ideal.ofBits .f32 0x42FF0000#32 = ((255 / 2 : ℝ) : EReal) := by
  simp [Ideal.ofBits, Ideal.ieee]; rw [← EReal.coe_mul]; norm_num
theorem bits_128 : Ideal.ofBits .f32 0x43000000#32 = ((128 : ℝ) : EReal) := by
  simp [Ideal.ofBits, Ideal.ieee]; rw [← EReal.coe_mul]; norm_num
theorem bits_0 : Ideal.ofBits .f32 0x00000000#32 = ((0 : ℝ) : EReal) := by
  simp [Ideal.ofBits, Ideal.ieee]
theorem bits_255_5 : Ideal.ofBits .f32 0x437F8000#32 = ((511 / 2 : ℝ) : EReal) := by
  simp [Ideal.ofBits, Ideal.ieee]; rw [← EReal.coe_mul]; norm_num
theorem bits_1 : Ideal.ofBits .f32 0x3F800000#32 = ((1 : ℝ) : EReal) := by
  simp [Ideal.ofBits, Ideal.ieee]; rw [← EReal.coe_mul]; norm_num
theorem bits_neg1 : Ideal.ofBits .f32 0xBF800000#32 = ((-1 : ℝ) : EReal) := by
  simp [Ideal.ofBits, Ideal.ieee]; rw [← EReal.coe_mul]; norm_num
theorem bits_2 : Ideal.ofBits .f32 0x40000000#32 = ((2 : ℝ) : EReal) := by
  simp [Ideal.ofBits, Ideal.ieee]; rw [← EReal.coe_mul]; norm_num
theorem bits_255 : Ideal.ofBits .f32 0x437F0000#32 = ((255 : ℝ) : EReal) := by
  simp [Ideal.ofBits, Ideal.ieee]; rw [← EReal.coe_mul]; norm_num
theorem bits_inf : Ideal.ofBits .f32 0x7F800000#32 = (⊤ : EReal) := by
  simp [Ideal.ofBits, Ideal.ieee]

/-- The named step is 2/255. -/
theorem named_step : (Named.named (F := Ideal) Cert.KernelIdeal.κ "step" (φ := .f32) 0x3C008081#32 : EReal) = ((2 / 255 : ℝ) : EReal) :=
  IdealRules.named_const.ideal_named_scalar _ _ _ _ rfl

/-- The kernel's expression for one element, at a real: the centre of its level. -/
theorem quant_coe (r : ℝ) : Cert.Proof.Ideal.quant (F := Ideal) ((r : ℝ) : EReal) = ((grid (level r) : ℝ) : EReal) := by
  have hsc : min (max ((r : EReal) * ((255 / 2 : ℝ) : EReal) + ((128 : ℝ) : EReal)) ((0 : ℝ) : EReal)) ((511 / 2 : ℝ) : EReal)
      = ((scaled r : ℝ) : EReal) := by
    unfold scaled
    rw [← EReal.coe_mul, ← EReal.coe_add, EReal.coe_strictMono.monotone.map_min, EReal.coe_strictMono.monotone.map_max]
  have hfl : ⌊scaled r⌋ = (level r : ℤ) := (Int.natCast_floor_eq_floor (scaled_nonneg r)).symm
  have hlt := level_lt r
  have hint : Ideal.fptosi 32 ((scaled r : ℝ) : EReal) = BitVec.ofNat 32 (level r) := by
    rw [Ideal.fptosi, Ideal.toIntClamped_coe, if_pos (scaled_nonneg r), hfl,
      min_eq_right (by norm_num; omega), max_eq_right (by norm_num), BitVec.ofInt_natCast]
  have hto : (BitVec.ofNat 32 (level r)).toInt = (level r : ℤ) := by
    rw [BitVec.toInt_eq_toNat_of_lt (by rw [BitVec.toNat_ofNat, Nat.mod_eq_of_lt (by omega)]; omega), BitVec.toNat_ofNat,
      Nat.mod_eq_of_lt (by omega)]
  show (((Ideal.fptosi 32 (min (max ((r : EReal) * Ideal.ofBits .f32 0x42FF0000#32 + Ideal.ofBits .f32 0x43000000#32)
      (Ideal.ofBits .f32 0x00000000#32)) (Ideal.ofBits .f32 0x437F8000#32))).toInt : ℝ) : EReal)
      * Named.named (F := Ideal) Cert.KernelIdeal.κ "step" (φ := .f32) 0x3C008081#32 - Ideal.ofBits .f32 0x3F800000#32 = _
  rw [bits_127_5, bits_128, bits_0, bits_255_5, bits_1, named_step, hsc, hint, hto, ← EReal.coe_mul, ← EReal.coe_sub]
  congr 1
  unfold grid; push_cast; ring

end Cert.Proof.Nearest

end
-- ==== Proof.RefValue.lean ====
/-
  What the reference computes, element by element, over the extended reals. A fold of the arg-min body over a list holding
  one least pair returns that pair (`foldl_argmin`); so the index found for an element is the level of the element
  (`best_eq`), the entry taken at it is the level's centre (`taken_eq`), and x + (q − x) is q (`out_apply`). The
  hypotheses are what the precondition says: the centres are the 256 points of the grid, the element is a real, and it
  does not lie halfway between two neighbouring centres.
-/
module

public import Idealize.ShloMosaic.Lib.StableHlo.Predicate
public import Idealize.ShloMosaic.Lib.ReduceAll
public import Idealize.ShloMosaic.Lib.Pointwise.Reshape
public import Idealize.ShloMosaic.PureOps.Ideal.Laws
public import proofs.«01_k».proof.Proof.Nearest
public import proofs.«01_k».proof.Proof.RefRun

@[expose] public section

noncomputable section

namespace Cert.Proof.Ref

open Cert.ReferenceIdeal Cert.ReferenceIdeal.Gen
open Idealize.ShloMosaic Idealize.ShloMosaic.TcCoe Idealize.ShloMosaic.StableHlo Idealize.ShloMosaic.StableHlo.Predicate
open Cert.Proof.Nearest

/-! ## The arg-min body -/

/-- The body on two pairs: the one of less value; of two equal values, the one of less index. -/
theorem argmin_body (a b : EReal × BitVec 32) :
    reducer_argmin_f32_i32 (F := Ideal) a b
      = if a.1 < b.1 then a else if a.1 = b.1 ∧ IntOp.cmpi .slt a.2 b.2 = 1#1 then (b.1, a.2) else b := by
  show (Scalar.select (IntOp.ori (Ideal.cmp .olt a.1 b.1) (Ideal.cmp .une a.1 a.1)) a.1 b.1,
    Scalar.select (IntOp.ori (IntOp.ori (Ideal.cmp .olt a.1 b.1) (Ideal.cmp .une a.1 a.1))
      (IntOp.andi (Ideal.cmp .oeq a.1 b.1) (IntOp.cmpi .slt a.2 b.2))) a.2 b.2) = _
  generalize IntOp.cmpi .slt a.2 b.2 = w
  by_cases h : a.1 < b.1
  · have hne : a.1 ≠ b.1 := h.ne
    rcases BitVec.eq_zero_or_eq_one w with rfl | rfl <;>
      simp [Ideal.cmp, h, hne, Scalar.select, IntOp.ori, IntOp.andi]
  · by_cases he : a.1 = b.1
    · rcases BitVec.eq_zero_or_eq_one w with rfl | rfl <;>
        simp [Ideal.cmp, he, Scalar.select, IntOp.ori, IntOp.andi]
    · rcases BitVec.eq_zero_or_eq_one w with rfl | rfl <;>
        simp [Ideal.cmp, h, he, Scalar.select, IntOp.ori, IntOp.andi]

/-- Folding the body over a list in which the pair `p`, and no other, has the least value returns `p`: `p` is met in the
    list or is where the fold begins. -/
theorem foldl_argmin (p : EReal × BitVec 32) (l : List (EReal × BitVec 32)) (acc : EReal × BitVec 32)
    (hl : ∀ q ∈ l, q = p ∨ p.1 < q.1) (ha : acc = p ∨ p.1 < acc.1) (hp : acc = p ∨ p ∈ l) :
    l.foldl (reducer_argmin_f32_i32 (F := Ideal)) acc = p := by
  induction l generalizing acc with
  | nil =>
    rcases hp with h | h
    · exact h
    · exact absurd h List.not_mem_nil
  | cons b l ih =>
    have hb := hl b List.mem_cons_self
    have hl' : ∀ q ∈ l, q = p ∨ p.1 < q.1 := fun q hq => hl q (List.mem_cons_of_mem _ hq)
    rw [List.foldl_cons]
    rcases ha with rfl | ha
    · refine ih _ hl' (Or.inl ?_) (Or.inl ?_) <;>
      · rw [argmin_body]
        rcases hb with rfl | hb
        · simp
        · rw [if_pos hb]
    · rcases hb with rfl | hb
      · have e : reducer_argmin_f32_i32 (F := Ideal) acc b = b := by
          rw [argmin_body, if_neg (not_lt.2 ha.le), if_neg fun h => ha.ne' h.1]
        exact ih _ hl' (Or.inl e) (Or.inl e)
      · have e : p.1 < (reducer_argmin_f32_i32 (F := Ideal) acc b).1 := by
          rw [argmin_body]; split
          · exact ha
          · split
            · exact hb
            · exact hb
        have hmem : p ∈ l := by
          rcases hp with h | h
          · exact absurd (congrArg Prod.fst h) ha.ne'
          · rcases List.mem_cons.1 h with h | h
            · exact absurd (congrArg Prod.fst h) hb.ne
            · exact h
        exact ih _ hl' (Or.inr e) (Or.inr hmem)

/-! ## The index found -/

/-- A row of the distances reduces to the row's number. -/
theorem drop_ij (p : Fin 442368) (q : Fin 256) :
    reducesTo_S442368x256_S442368_d1.drop (ij p q) = (Shape.Idx.ofFin p : S442368.Idx) := by
  funext b
  have hb : b = 0 := Subsingleton.elim _ _
  subst hb
  exact Fin.ext (Shape.ReducesTo.drop_apply_val_of_eq reducesTo_S442368x256_S442368_d1 (ij p q) 0 0)

/-- An index that reduces to the row `p` lies in it. -/
theorem eq_of_drop (p : Fin 442368) (i : S442368x256.Idx)
    (h : reducesTo_S442368x256_S442368_d1.drop i = (Shape.Idx.ofFin p : S442368.Idx)) : i = ij p (i 1) := by
  have h0 : (i 0 : ℕ) = p := by
    rw [← Shape.ReducesTo.drop_apply_val_of_eq reducesTo_S442368x256_S442368_d1 i 0 0, h]; rfl
  rw [← ij_eta i]
  congr 1
  exact Fin.ext h0

/-- An arg-min along dimensions: where one entry of the group reduced into `j`, and no other, is least, it is the one
    returned, with what goes along with it. -/
theorem argReduce_argmin {s t u : Shape} {axes : List (Fin s.rank)} (x : s.Idx → EReal) (y : s.Idx → BitVec 32)
    (ix : u.Idx → EReal) (iy : u.Idx → BitVec 32) (h : s.ReducesTo axes t) (hu : 0 < u.numel) (j : t.Idx) (k : s.Idx)
    (hk : h.drop k = j) (hl : ∀ i, h.drop i = j → i = k ∨ x k < x i) (hi : x k < ix (Shape.Idx.first hu)) :
    Host.argReduce (F := Ideal) (φ := .f32) reducer_argmin_f32_i32 x y ix iy h hu j = (x k, y k) := by
  rw [Ideal.argReduce_eq_reduce2, Host.reduce2_eq_foldl_fiber]
  refine foldl_argmin (x k, y k) _ _ (fun r hr => ?_) (Or.inr hi) (Or.inr ?_)
  · obtain ⟨n, hn, rfl⟩ := List.mem_map.1 hr
    rcases hl _ (of_decide_eq_true (List.mem_filter.1 hn).2) with e | e
    · left; rw [e]
    · right; exact e
  · refine List.mem_map.2 ⟨s.rowMajor k, List.mem_filter.2 ⟨List.mem_finRange _, decide_eq_true ?_⟩, ?_⟩
    · rw [Equiv.symm_apply_apply]; exact hk
    · rw [Equiv.symm_apply_apply]

/-- `best`, as the operation it is. -/
theorem best_def : @best Ideal _ = fun d j => (Host.argReduce (F := Ideal) (φ := .f32) reducer_argmin_f32_i32 d
    (iotaInDim S442368x256 32 1) (constant S_ .f32 0x7F800000#32) (constantI S_ 32 0#32)
    reducesTo_S442368x256_S442368_d1 h_S_ j).2 := rfl

/-- A row whose least entry stands in one column alone: the index found is that column's. -/
theorem best_eq (d : S442368x256.Idx → EReal) (p : Fin 442368) (k : Fin 256) (hk : d (ij p k) < ⊤)
    (h : ∀ q : Fin 256, q ≠ k → d (ij p k) < d (ij p q)) :
    best (F := Ideal) d (Shape.Idx.ofFin p) = BitVec.ofNat 32 k := by
  refine (congrFun (congrFun best_def d) _).trans ?_
  rw [argReduce_argmin d _ _ _ _ _ _ (ij p k) (drop_ij p k)]
  · rfl
  · intro i hi
    have e := eq_of_drop p i hi
    by_cases hq : i 1 = k
    · left; exact e.trans (congrArg (ij p) hq)
    · right; rw [e]; exact h _ hq
  · exact hk.trans_eq bits_inf.symm

/-! ## The entry taken -/

/-- At an index below 256 the wrapped index is the index itself. -/
theorem wrapped_eq (i : S442368.Idx → BitVec 32) (p : Fin 442368) (k : Fin 256)
    (h : i (Shape.Idx.ofFin p) = BitVec.ofNat 32 k) : wrapped (F := Ideal) i (ixP p) = BitVec.ofNat 32 k := by
  unfold wrapped
  rw [bcast_col1]
  show Scalar.select (IntOp.cmpi .slt (i (Shape.Idx.ofFin p)) 0#32) (IntOp.addi (i (Shape.Idx.ofFin p)) 256#32)
    (i (Shape.Idx.ofFin p)) = _
  have hk : (BitVec.ofNat 32 (k : ℕ)).toNat = k := by rw [BitVec.toNat_ofNat]; omega
  have hs : ¬ IntOp.cmpi .slt (BitVec.ofNat 32 (k : ℕ)) 0#32 = 1#1 := by
    rw [slt_iff_toNat (by omega) (by decide)]; simp
  rw [h, Scalar.select]; exact if_neg hs

/-- A column of one entry per row reduces to its rows. -/
theorem eq_ixP_of_drop (p : Fin 442368) (i : S442368x1.Idx)
    (h : reducesTo_S442368x1_S442368_d1.drop i = (Shape.Idx.ofFin p : S442368.Idx)) : i = ixP p := by
  have h0 : (i 0 : ℕ) = p := by
    rw [← Shape.ReducesTo.drop_apply_val_of_eq reducesTo_S442368x1_S442368_d1 i 0 0, h]; rfl
  funext a
  match a with
  | ⟨0, _⟩ => exact Fin.ext h0
  | ⟨1, _⟩ => exact Subsingleton.elim (α := Fin 1) _ _

/-- Such an index lies inside the table. -/
theorem inside_eq (w : S442368x1.Idx → BitVec 32) (p : Fin 442368) (k : Fin 256) (h : w (ixP p) = BitVec.ofNat 32 k) :
    inside (F := Ideal) w (Shape.Idx.ofFin p) = 1#1 := by
  unfold inside
  rw [Host.reduce_eq_foldl]
  refine IntOp.foldl_andi_one _ _ _ rfl fun i hi => ?_
  have hi' := eq_ixP_of_drop p i (of_decide_eq_true (List.mem_filter.1 hi).2)
  rw [hi']
  have hk : (BitVec.ofNat 32 (k : ℕ)).toNat = k := by rw [BitVec.toNat_ofNat]; omega
  show IntOp.andi (IntOp.cmpi .sge (w (ixP p)) 0#32) (IntOp.cmpi .sle (w (ixP p)) 255#32) = 1#1
  rw [h, (sge_iff_toNat (by omega) (by decide)).2 (by simp), (sle_iff_toNat (by omega) (by decide)).2 (by rw [hk]; simp; omega)]
  rfl

/-- The entry taken at an index below 256 is the table's entry there. -/
theorem taken_eq (c : S256.Idx → EReal) (i : S442368.Idx → BitVec 32) (p : Fin 442368) (k : Fin 256)
    (h : i (Shape.Idx.ofFin p) = BitVec.ofNat 32 k) :
    taken (F := Ideal) c i (Shape.Idx.ofFin p) = c (Shape.Idx.ofFin k) := by
  have hw := wrapped_eq i p k h
  unfold taken
  show Scalar.select (inside (F := Ideal) (wrapped (F := Ideal) i) (Shape.Idx.ofFin p)) (Host.gather _ _ _ _) _ = _
  rw [inside_eq _ p k hw, Scalar.select]
  refine (if_pos rfl).trans ?_
  rw [gather_take _ rfl rfl rfl rfl _ _ _ (by norm_num)]
  congr 2
  have hk : (BitVec.ofNat 32 (k : ℕ)).toInt = (k : ℤ) := toInt_ofNat_small _ (by omega)
  apply Fin.ext
  show min (wrapped (F := Ideal) i (ixP p)).toInt.toNat (256 - 1) = k
  rw [hw, hk, Int.toNat_natCast]
  omega

/-! ## The reshapes -/

/-- The place of an element in the flat array. -/
def flat (i : S8x576x96.Idx) : Fin 442368 :=
  ⟨(i 0).val * 55296 + (i 1).val * 96 + (i 2).val, by
    have h0 : (i 0).val < 8 := (i 0).isLt
    have h1 : (i 1).val < 576 := (i 1).isLt
    have h2 : (i 2).val < 96 := (i 2).isLt
    omega⟩

theorem shapeCast_col {α : Type} (x : S8x576x96.Idx → α) (h : S8x576x96.ShapeCasts S442368x1) (i : S8x576x96.Idx) :
    shapeCast S442368x1 x h (ixP (flat i)) = x i :=
  congrArg x (Shape.reshapeEquiv_eq_of_vals _ _ _ _ _ (rowMajor_val3 i 55296 96 rfl rfl)
    (rowMajor_val2 (ixP (flat i)) 1 rfl) (by simp [flat]))

theorem shapeCast_flat {α : Type} (v : S442368.Idx → α) (h : S442368.ShapeCasts S8x576x96) (i : S8x576x96.Idx) :
    shapeCast S8x576x96 v h i = v (Shape.Idx.ofFin (flat i)) :=
  congrArg v (Shape.reshapeEquiv_eq_of_vals _ _ _ _ _ (rowMajor_val1 (Shape.Idx.ofFin (flat i)))
    (rowMajor_val3 i 55296 96 rfl rfl) rfl)

/-! ## The result -/

/-- The distance of an element to a centre. -/
theorem dist_apply (x : S8x576x96.Idx → EReal) (c : S256.Idx → EReal) (i : S8x576x96.Idx) (q : Fin 256) :
    dist (F := Ideal) x c (ij (flat i) q)
      = max (x i - c (Shape.Idx.ofFin q)) (-(x i - c (Shape.Idx.ofFin q))) := by
  have h1 : broadcastInDim S442368x256 ![0, 1] bcast_S442368x1_S442368x256_0_1
      (shapeCast S442368x1 x shapeCasts_S8x576x96_S442368x1) (ij (flat i) q) = x i := by
    rw [bcast_of_col, shapeCast_col]
  have h2 : broadcastInDim S442368x256 ![0, 1] bcast_S1x256_S442368x256_0_1
      (broadcastInDim S1x256 ![1] bcast_S256_S1x256_1 c) (ij (flat i) q) = c (Shape.Idx.ofFin q) := by
    rw [bcast_cols]
  rw [← h1, ← h2]; rfl

/-- The last two operations, at an element. -/
theorem add_sub_apply {s : Shape} (x t : s.Idx → EReal) (i : s.Idx) :
    addf (F := Ideal) (φ := .f32) x (subf (F := Ideal) (φ := .f32) t x) i = x i + (t i - x i) := rfl

/-- `out`, as the operations it is. -/
theorem out_def : @out Ideal _ = fun x c => addf (F := Ideal) (φ := .f32) x (subf (F := Ideal) (φ := .f32)
    (shapeCast S8x576x96 (taken (F := Ideal) c (best (F := Ideal) (dist (F := Ideal) x c))) shapeCasts_S442368_S8x576x96)
    x) := rfl

/-- With the grid's points for centres, an element that is a real `r` not halfway between neighbours: the reference's
    result there is the centre of the level of `r`. -/
theorem out_apply (x : S8x576x96.Idx → EReal) (c : S256.Idx → EReal)
    (hc : ∀ k : Fin 256, c (Shape.Idx.ofFin k) = ((grid k : ℝ) : EReal)) (i : S8x576x96.Idx) (r : ℝ)
    (hx : x i = (r : EReal)) (hr : ∀ k < 255, 2 * r ≠ grid k + grid (k + 1)) :
    out (F := Ideal) x c i = ((grid (level r) : ℝ) : EReal) := by
  have hd : ∀ q : Fin 256, dist (F := Ideal) x c (ij (flat i) q) = ((|r - grid q| : ℝ) : EReal) := by
    intro q
    rw [dist_apply, hx, hc, ← EReal.coe_sub, ← EReal.coe_neg, ← EReal.coe_strictMono.monotone.map_max]; rfl
  have hb : best (F := Ideal) (dist (F := Ideal) x c) (Shape.Idx.ofFin (flat i)) = BitVec.ofNat 32 (level r) := by
    refine best_eq _ (flat i) ⟨level r, level_lt r⟩ ?_ fun q hq => ?_
    · rw [hd]; exact EReal.coe_lt_top _
    · rw [hd, hd, EReal.coe_lt_coe_iff]
      exact level_nearest r hr q.isLt fun h => hq (Fin.ext h)
  have ht := taken_eq c _ (flat i) ⟨level r, level_lt r⟩ hb
  rw [out_def]
  beta_reduce
  rw [add_sub_apply, shapeCast_flat, ht, hc, hx, ← EReal.coe_sub, ← EReal.coe_add, add_sub_cancel]

end Cert.Proof.Ref

end
-- ==== Proof.Pre.lean ====
/-
  The precondition, read over the extended reals: the centres are the 256 points of the grid (`centers_eq`), each element
  is a real (`elem_real`), and twice an element is the sum of no two neighbouring centres (`elem_off_midpoint`).
-/
module

public import Idealize.ShloMosaic.Lib.StableHlo.Predicate
public import Idealize.ShloMosaic.Lib.ReduceAll
public import Idealize.ShloMosaic.Lib.Pipeline.Value
public import proofs.«01_k».proof.Proof.Gen.Pre_nearest_is_unique
public import proofs.«01_k».proof.Proof.RefValue

@[expose] public section

noncomputable section

namespace Cert.Proof.Pre

open Cert.Pre_nearest_is_unique Cert.Pre_nearest_is_unique.Facts
open Idealize.ShloMosaic Idealize.ShloMosaic.StableHlo.Predicate
open Cert.Proof.Nearest

/-! ## The three conjuncts -/

/-- The grid the precondition asks of the centres. -/
def points : FVec Ideal S256 .f32 :=
  fn_linspace (F := Ideal) (constant S_ .f32 0xBF800000#32) (constant S_ .f32 0x3F800000#32)

/-- Where each centre is the grid's point. -/
def onGrid (c : FVec Ideal S256 .f32) : IVec S256 1 := cmpf .oeq c points

/-- Where an element is below infinity in absolute value. -/
def isReal (x : FVec Ideal S8x576x96 .f32) : IVec S8x576x96 1 :=
  cmpf .olt (Host.absf x) (broadcastInDim S8x576x96 ![] bcast_S_S8x576x96 (constant S_ .f32 0x7F800000#32))

/-- Twice each element, along a row. -/
def twice (x : FVec Ideal S8x576x96 .f32) : FVec Ideal S442368x255 .f32 :=
  broadcastInDim S442368x255 ![0, 1] bcast_S442368x1_S442368x255_0_1
    (mulf (broadcastInDim S442368x1 ![] bcast_S_S442368x1 (constant S_ .f32 0x40000000#32))
      (shapeCast S442368x1 x shapeCasts_S8x576x96_S442368x1))

/-- The sums of neighbouring centres, down each column. -/
def sums (c : FVec Ideal S256 .f32) : FVec Ideal S442368x255 .f32 :=
  broadcastInDim S442368x255 ![0, 1] bcast_S1x255_S442368x255_0_1
    (broadcastInDim S1x255 ![1] bcast_S255_S1x255_1
      (addf (extractStridedSlice S255 ![0] c slices_S256_S255_0) (extractStridedSlice S255 ![1] c slices_S256_S255_1)))

/-- The precondition is the conjunction of the three, each over all its places. -/
theorem fn_def : @fn Gen.facts Ideal _ = fun x c =>
    andi (andi (Host.reduce IntOp.andi (onGrid c) (constantI S_ 1 1#1) reducesTo_S256_S_d0 h_S_)
        (Host.reduce IntOp.andi (isReal x) (constantI S_ 1 1#1) reducesTo_S8x576x96_S_d0_1_2 h_S_))
      (Host.reduce IntOp.andi (cmpf .une (twice x) (sums c)) (constantI S_ 1 1#1) reducesTo_S442368x255_S_d0_1 h_S_) := rfl

/-- A conjunction of three words that is 1 has each of them 1. -/
theorem and3 (a b c : IVec S_ 1) (j : S_.Idx) (h : andi (andi a b) c j = 1#1) : a j = 1#1 ∧ b j = 1#1 ∧ c j = 1#1 := by
  obtain ⟨h, hc⟩ := IntOp.andi_eq_one.1 h
  obtain ⟨ha, hb⟩ := IntOp.andi_eq_one.1 h
  exact ⟨ha, hb, hc⟩

instance : Subsingleton S_.Idx := ⟨fun a b => funext fun i => i.elim0⟩

/-- The precondition, at every place it speaks of. -/
theorem all_of_fn (x : FVec Ideal S8x576x96 .f32) (c : FVec Ideal S256 .f32)
    (h : fn (F := Ideal) x c = fun _ => 1#1) :
    (∀ k, onGrid c k = 1#1) ∧ (∀ i, isReal x i = 1#1)
      ∧ ∀ j, cmpf (F := Ideal) (φ := .f32) .une (twice x) (sums c) j = 1#1 := by
  have j : S_.Idx := fun i => i.elim0
  rw [fn_def] at h
  obtain ⟨h1, h2, h3⟩ := and3 _ _ _ j (congrFun h j)
  exact ⟨fun k => Host.reduce_andi_all _ _ _ _ j h1 k, fun i => Host.reduce_andi_all _ _ _ _ j h2 i,
    fun i => Host.reduce_andi_all _ _ _ _ j h3 i⟩

/-! ## The grid -/

/-- The fraction k/255. -/
def frac : FVec Ideal S255 .f32 :=
  Host.divf (sitofp .f32 (iotaInDim S255 32 0)) (broadcastInDim S255 ![] bcast_S_S255 (constant S_ .f32 0x437F0000#32))

theorem frac_apply (k : Fin 255) : frac (Shape.Idx.ofFin k) = (((k : ℕ) / 255 : ℝ) : EReal) := by
  show Ideal.div (((BitVec.ofNat 32 (k : ℕ)).toInt : ℝ) : EReal) (Ideal.ofBits .f32 0x437F0000#32) = _
  rw [bits_255, Ideal.div_coe (by norm_num), toInt_ofNat_small _ (by omega), ← EReal.coe_mul]
  congr 1
  rw [Int.cast_natCast]; ring

/-- The first 255 points, as the operations they are. -/
def front : FVec Ideal S255 .f32 :=
  addf
    (mulf (broadcastInDim S255 ![0] bcast_S1_S255_0 (shapeCast S1 (constant (F := Ideal) S_ .f32 0xBF800000#32) shapeCasts_S_S1))
      (subf (broadcastInDim S255 ![] bcast_S_S255 (constant S_ .f32 0x3F800000#32)) frac))
    (mulf (broadcastInDim S255 ![0] bcast_S1_S255_0 (shapeCast S1 (constant (F := Ideal) S_ .f32 0x3F800000#32) shapeCasts_S_S1)) frac)

theorem front_apply (k : Fin 255) : front (Shape.Idx.ofFin k) = ((grid k : ℝ) : EReal) := by
  show Ideal.ofBits .f32 0xBF800000#32 * (Ideal.ofBits .f32 0x3F800000#32 - frac (Shape.Idx.ofFin k))
    + Ideal.ofBits .f32 0x3F800000#32 * frac (Shape.Idx.ofFin k) = _
  rw [frac_apply, bits_neg1, bits_1, ← EReal.coe_sub, ← EReal.coe_mul, ← EReal.coe_mul, ← EReal.coe_add]
  congr 1
  unfold grid; ring

theorem points_def : points = concatenate S256 0 [⟨S255, front⟩,
    ⟨S1, broadcastInDim S1 ![] bcast_S_S1 (constant (F := Ideal) S_ .f32 0x3F800000#32)⟩] concatenates_S255_S1_S256_d0 := rfl

theorem points_apply (k : Fin 256) : points (Shape.Idx.ofFin k) = ((grid k : ℝ) : EReal) := by
  rw [points_def]
  by_cases hk : (k : ℕ) < 255
  · refine (concatenate_pair_apply_left (t := S256) (s₁ := S255) (s₂ := S1) 0 _ _ _ (Shape.Idx.ofFin k) rfl
      (Shape.Idx.ofFin (⟨k, hk⟩ : Fin 255)) (fun b => by obtain rfl : b = 0 := Subsingleton.elim _ _; rfl)).trans ?_
    exact front_apply ⟨k, hk⟩
  · have h : (k : ℕ) = 255 := by omega
    refine (concatenate_pair_apply_right (t := S256) (s₁ := S255) (s₂ := S1) 0 _ _ _ (Shape.Idx.ofFin k) rfl rfl
      (Shape.Idx.ofFin (0 : Fin 1)) (fun b hb => absurd (Subsingleton.elim _ _) hb)
      (by show 0 + 255 = (k : ℕ); omega)).trans ?_
    show Ideal.ofBits .f32 0x3F800000#32 = _
    rw [bits_1, h]
    congr 1
    unfold grid; norm_num

/-! ## What the precondition says -/

variable {x : FVec Ideal S8x576x96 .f32} {c : FVec Ideal S256 .f32}

/-- The centres are the grid's points. -/
theorem centers_eq (h : fn (F := Ideal) x c = fun _ => 1#1) (k : Fin 256) :
    c (Shape.Idx.ofFin k) = ((grid k : ℝ) : EReal) := by
  rw [← points_apply]
  exact of_decide_eq_true ((ofBool_eq_one_iff _).1 ((all_of_fn x c h).1 (Shape.Idx.ofFin k)))

/-- An extended real below infinity in absolute value is a real. -/
theorem real_of_abs_lt (v : EReal) (h : max v (-v) < ⊤) : ∃ r : ℝ, v = (r : EReal) := by
  induction v using EReal.rec with
  | bot => simp at h
  | coe r => exact ⟨r, rfl⟩
  | top => simp at h

/-- Each element is a real. -/
theorem elem_real (h : fn (F := Ideal) x c = fun _ => 1#1) (i : S8x576x96.Idx) : ∃ r : ℝ, x i = (r : EReal) := by
  have e : Ideal.cmp .olt (max (x i) (-(x i))) (Ideal.ofBits .f32 0x7F800000#32) = 1#1 := (all_of_fn x c h).2.1 i
  have e' : max (x i) (-(x i)) < ⊤ := by
    rw [← bits_inf]
    exact of_decide_eq_true ((ofBool_eq_one_iff _).1 e)
  exact real_of_abs_lt _ e'

/-- No element is halfway between two neighbouring centres. -/
theorem elem_off_midpoint (h : fn (F := Ideal) x c = fun _ => 1#1) (i : S8x576x96.Idx) (r : ℝ) (hx : x i = (r : EReal))
    (k : ℕ) (hk : k < 255) : 2 * r ≠ grid k + grid (k + 1) := by
  have e := (all_of_fn x c h).2.2 (ij (Cert.Proof.Ref.flat i) ⟨k, hk⟩)
  have h1 : twice x (ij (Cert.Proof.Ref.flat i) ⟨k, hk⟩) = ((2 * r : ℝ) : EReal) := by
    unfold twice
    rw [bcast_of_col]
    show Ideal.ofBits .f32 0x40000000#32 * shapeCast S442368x1 x _ (ixP (Cert.Proof.Ref.flat i)) = _
    rw [Cert.Proof.Ref.shapeCast_col, hx, bits_2, ← EReal.coe_mul]
  have h2 : sums c (ij (Cert.Proof.Ref.flat i) ⟨k, hk⟩) = ((grid k + grid (k + 1) : ℝ) : EReal) := by
    unfold sums
    rw [bcast_cols]
    have e0 : extractStridedSlice S255 ![0] c slices_S256_S255_0 (Shape.Idx.ofFin (⟨k, hk⟩ : Fin 255))
        = c (Shape.Idx.ofFin (⟨k, by omega⟩ : Fin 256)) := by
      refine congrArg c (funext fun b => ?_)
      obtain rfl : b = 0 := Subsingleton.elim _ _
      exact Fin.ext (Nat.zero_add k)
    have e1 : extractStridedSlice S255 ![1] c slices_S256_S255_1 (Shape.Idx.ofFin (⟨k, hk⟩ : Fin 255))
        = c (Shape.Idx.ofFin (⟨k + 1, by omega⟩ : Fin 256)) := by
      refine congrArg c (funext fun b => ?_)
      obtain rfl : b = 0 := Subsingleton.elim _ _
      exact Fin.ext (Nat.add_comm 1 k)
    show extractStridedSlice S255 ![0] c slices_S256_S255_0 (Shape.Idx.ofFin (⟨k, hk⟩ : Fin 255))
      + extractStridedSlice S255 ![1] c slices_S256_S255_1 (Shape.Idx.ofFin (⟨k, hk⟩ : Fin 255)) = _
    rw [e0, e1, centers_eq h, centers_eq h, ← EReal.coe_add]
  intro heq
  have e' : twice x (ij (Cert.Proof.Ref.flat i) ⟨k, hk⟩) ≠ sums c (ij (Cert.Proof.Ref.flat i) ⟨k, hk⟩) :=
    of_decide_eq_true ((ofBool_eq_one_iff _).1 e)
  exact e' (by rw [h1, h2, heq])

end Cert.Proof.Pre

end
-- ==== Proof.Algebraic.lean ====
/-
  Kernel and reference over the extended reals. By the precondition each element is a real off every midpoint, so the
  kernel's rounding and the reference's search over the centres name the same point of the grid (`values_eq`).
-/
module

public import proofs.«01_k».proof.Proof.Main
public import proofs.«01_k».proof.Proof.Pre

@[expose] public section

noncomputable section

namespace Cert.Proof

open Idealize.ShloMosaic Idealize.ShloMosaic.TcCoe Idealize.SL.Sem

/-- Under the precondition the reference's result is the kernel's, element by element. -/
theorem values_eq (x : Cert.ReferenceIdeal.S8x576x96.Idx → EReal) (c : Cert.ReferenceIdeal.S256.Idx → EReal)
    (h : Cert.Pre_nearest_is_unique.fn (F := Ideal) x c = fun _ => 1#1) (i : Cert.ReferenceIdeal.S8x576x96.Idx) :
    Ref.out (F := Ideal) x c i = Ideal.quant (F := Idealize.ShloMosaic.Ideal) (x i) := by
  obtain ⟨r, hr⟩ := Pre.elem_real h i
  rw [Ref.out_apply x c (Pre.centers_eq h) i r hr fun k hk => Pre.elem_off_midpoint h i r hr k hk, hr,
    Nearest.quant_coe]

/-- The rule that names the constant holds of it. -/
theorem preserves : Cert.preserves_Kernel_KernelIdeal :=
  IdealRules.named_const.statement Cert.KernelIdeal.κ "step" .f32 0x3C008081#32 ((2 / 255 : ℝ) : EReal) rfl

/-- Both programs run, with equal results, and leave their arguments as they were. -/
theorem algebraic : Cert.algebraic_KernelIdeal_ReferenceIdeal_pre_nearest_is_unique := by
  intro m g m' g' hpre hag
  refine ⟨fun c => Ideal.res m c, ?_, ?_⟩
  · exact (θ_run Cert.KernelIdeal.defs _ _).mono (fun _ h c => ⟨(h.1 c).2.2, (h.1 c).1, (h.1 c).2.1⟩)
      (Ideal.run_main (F := Idealize.ShloMosaic.Ideal) m g)
  · refine (θ_run Cert.ReferenceIdeal.defs _ _).mono (fun _ h c => ⟨(h.1 c).1.trans ?_, (h.1 c).2.1, (h.1 c).2.2⟩)
      (Ref.run_main (F := Idealize.ShloMosaic.Ideal) m' g')
    rw [(hag c).1, (hag c).2]
    funext i
    exact (values_eq _ _ (hpre c) i).trans (Ideal.res_apply (m := m) c i).symm

end Cert.Proof

end
-- ==== Proof.lean ====
/-
  The claims, proved: the frames of the kernel at the machine's floats and over the extended reals and of the reference
  (`Frames`, `RefRun`), that naming the grid step preserves it, and that kernel and reference agree over the extended
  reals where the nearest centre is unique (`Algebraic`).
-/
module

public import proofs.«01_k».proof.Defs
public import proofs.«01_k».proof.Proof.Frames
public import proofs.«01_k».proof.Proof.RefRun
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_nearest_is_unique

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_nearest_is_unique.Gen.facts,
    Ideal.frame_kernel, Ideal.frame_ideal, Ideal.frame_ideal_pre, Ref.frame_reference, Ref.frame_reference_pre,
    preserves, algebraic⟩

end Cert.Proof

end
